-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![4096, 2048]⟩ ⟨2, ![4096, 4096]⟩ (Layout.meshBlock [2, 2] ![[], [0]] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![2048, 4096]⟩ ⟨2, ![4096, 4096]⟩ (Layout.meshBlock [2, 2] ![[0], []] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x2048 : Shape := ⟨2, ![4096, 2048]⟩
abbrev S2048x4096 : Shape := ⟨2, ![2048, 4096]⟩
abbrev S4096x4096 : Shape := ⟨2, ![4096, 4096]⟩
abbrev S2x128x2048 : Shape := ⟨3, ![2, 128, 2048]⟩
abbrev S2x128x4096 : Shape := ⟨3, ![2, 128, 4096]⟩
abbrev S128x4096 : Shape := ⟨2, ![128, 4096]⟩
abbrev S2 : Shape := ⟨1, ![2]⟩
abbrev S_ : Shape := ⟨0, ![]⟩
abbrev S16 : Shape := ⟨1, ![16]⟩
abbrev S1 : Shape := ⟨1, ![1]⟩
abbrev S1x128x2048 : Shape := ⟨3, ![1, 128, 2048]⟩
abbrev S128x2048 : Shape := ⟨2, ![128, 2048]⟩
abbrev S1x128x4096 : Shape := ⟨3, ![1, 128, 4096]⟩

abbrev nBuf : Space → Nat
  | .hbm => 4
  | .vmem => 5
  | .smem => 0
  | _ => 0

abbrev bufTy : (tb : Table) → Fin (tcTables nBuf tb) → BufTy
  | .hbm, ⟨0, _⟩ => ⟨S4096x2048, .f32⟩
  | .hbm, ⟨1, _⟩ => ⟨S2048x4096, .f32⟩
  | .hbm, ⟨2, _⟩ => ⟨S4096x4096, .f32⟩
  | .hbm, ⟨3, _⟩ => ⟨S2048x4096, .f32⟩
  | .local _ .vmem, ⟨0, _⟩ => ⟨S2048x4096, .f32⟩
  | .local _ .vmem, ⟨1, _⟩ => ⟨S2x128x2048, .f32⟩
  | .local _ .vmem, ⟨2, _⟩ => ⟨S2x128x4096, .f32⟩
  | .local _ .vmem, ⟨3, _⟩ => ⟨S128x4096, .f32⟩
  | .local _ .vmem, ⟨4, _⟩ => ⟨S2x128x4096, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  (ofTc nBuf bufTy 1 42 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1_0 : Ref sig .tc := ⟨.hbm, 2, rfl⟩
abbrev main_v1_1 : Ref sig .tc := ⟨.hbm, 3, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_sem0_0 : DmaSem sig := 0
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_5 : BitVec 32 := 2#32
  let v10 : BitVec 32 := Scalar.muli v6 c2_i32_5
  let v11 : BitVec 32 := Scalar.addi c0_i32 v10
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_6 : BitVec 32 := 1#32
  let v12 : BitVec 32 := Scalar.muli v5 c1_i32_6
  let v13 : BitVec 32 := Scalar.addi v11 v12
  v13.toNat
def k0_dev2 (d0 : Dev nD) : Nat :=
  let c0_i32_9 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_8 : BitVec 32 := 2#32
  let v14 : BitVec 32 := Scalar.muli v2 c2_i32_8
  let v15 : BitVec 32 := Scalar.addi c0_i32_9 v14
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_10 : BitVec 32 := 1#32
  let v16 : BitVec 32 := Scalar.muli v7 c1_i32_10
  let v17 : BitVec 32 := Scalar.addi v15 v16
  v17.toNat
def k0_off1 (d0 : Dev nD) (c0_i32_12 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c2048_i32 : BitVec 32 := 2048#32
  let v8 : BitVec 32 := Scalar.muli v5 c2048_i32
  let v18 : BitVec 32 := Scalar.addi v8 c0_i32_12
  let c0_i32_17 : BitVec 32 := 0#32
  ![v18.toNat, 0]
def k0_dev3 (d0 : Dev nD) : Nat :=
  let c0_i32_40 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_39 : BitVec 32 := 2#32
  let v44 : BitVec 32 := Scalar.muli v6 c2_i32_39
  let v45 : BitVec 32 := Scalar.addi c0_i32_40 v44
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_41 : BitVec 32 := 1#32
  let v46 : BitVec 32 := Scalar.muli v5 c1_i32_41
  let v47 : BitVec 32 := Scalar.addi v45 v46
  v47.toNat
def k0_dev4 (d0 : Dev nD) : Nat :=
  let c0_i32_69 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_68 : BitVec 32 := 2#32
  let v75 : BitVec 32 := Scalar.muli v6 c2_i32_68
  let v76 : BitVec 32 := Scalar.addi c0_i32_69 v75
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_70 : BitVec 32 := 1#32
  let v77 : BitVec 32 := Scalar.muli v5 c1_i32_70
  let v78 : BitVec 32 := Scalar.addi v76 v77
  v78.toNat
def k0_off2 (d0 : Dev nD) (c0_i32_97 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c2048_i32 : BitVec 32 := 2048#32
  let v8 : BitVec 32 := Scalar.muli v5 c2048_i32
  let v104 : BitVec 32 := Scalar.addi v8 c0_i32_97
  let c0_i32_104 : BitVec 32 := 0#32
  ![v104.toNat, 0]
def k0_dev5 (d0 : Dev nD) : Nat :=
  let c0_i32_102 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_101 : BitVec 32 := 2#32
  let v105 : BitVec 32 := Scalar.muli v2 c2_i32_101
  let v106 : BitVec 32 := Scalar.addi c0_i32_102 v105
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_103 : BitVec 32 := 1#32
  let v107 : BitVec 32 := Scalar.muli v7 c1_i32_103
  let v108 : BitVec 32 := Scalar.addi v106 v107
  v108.toNat
def k0_dev6 (d0 : Dev nD) : Nat :=
  let c0_i32_145 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_144 : BitVec 32 := 2#32
  let v147 : BitVec 32 := Scalar.muli v6 c2_i32_144
  let v148 : BitVec 32 := Scalar.addi c0_i32_145 v147
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_146 : BitVec 32 := 1#32
  let v149 : BitVec 32 := Scalar.muli v5 c1_i32_146
  let v150 : BitVec 32 := Scalar.addi v148 v149
  v150.toNat
def k0_dev7 (d0 : Dev nD) : Nat :=
  let c0_i32_178 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_177 : BitVec 32 := 2#32
  let v177 : BitVec 32 := Scalar.muli v2 c2_i32_177
  let v178 : BitVec 32 := Scalar.addi c0_i32_178 v177
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_179 : BitVec 32 := 1#32
  let v179 : BitVec 32 := Scalar.muli v7 c1_i32_179
  let v180 : BitVec 32 := Scalar.addi v178 v179
  v180.toNat
def k0_dev8 (d0 : Dev nD) : Nat :=
  let c0_i32_220 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_219 : BitVec 32 := 2#32
  let v219 : BitVec 32 := Scalar.muli v6 c2_i32_219
  let v220 : BitVec 32 := Scalar.addi c0_i32_220 v219
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_221 : BitVec 32 := 1#32
  let v221 : BitVec 32 := Scalar.muli v5 c1_i32_221
  let v222 : BitVec 32 := Scalar.addi v220 v221
  v222.toNat
def k0_dev9 (d0 : Dev nD) : Nat :=
  let c0_i32_267 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_266 : BitVec 32 := 2#32
  let v261 : BitVec 32 := Scalar.muli v2 c2_i32_266
  let v262 : BitVec 32 := Scalar.addi c0_i32_267 v261
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_268 : BitVec 32 := 1#32
  let v263 : BitVec 32 := Scalar.muli v7 c1_i32_268
  let v264 : BitVec 32 := Scalar.addi v262 v263
  v264.toNat
def k0_dev10 (d0 : Dev nD) : Nat :=
  let c0_i32_309 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_308 : BitVec 32 := 2#32
  let v303 : BitVec 32 := Scalar.muli v6 c2_i32_308
  let v304 : BitVec 32 := Scalar.addi c0_i32_309 v303
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_310 : BitVec 32 := 1#32
  let v305 : BitVec 32 := Scalar.muli v5 c1_i32_310
  let v306 : BitVec 32 := Scalar.addi v304 v305
  v306.toNat
def k0_dev11 (d0 : Dev nD) : Nat :=
  let c0_i32_356 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_355 : BitVec 32 := 2#32
  let v345 : BitVec 32 := Scalar.muli v2 c2_i32_355
  let v346 : BitVec 32 := Scalar.addi c0_i32_356 v345
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_357 : BitVec 32 := 1#32
  let v347 : BitVec 32 := Scalar.muli v7 c1_i32_357
  let v348 : BitVec 32 := Scalar.addi v346 v347
  v348.toNat
def k0_dev12 (d0 : Dev nD) : Nat :=
  let c0_i32_398 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_397 : BitVec 32 := 2#32
  let v387 : BitVec 32 := Scalar.muli v6 c2_i32_397
  let v388 : BitVec 32 := Scalar.addi c0_i32_398 v387
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_399 : BitVec 32 := 1#32
  let v389 : BitVec 32 := Scalar.muli v5 c1_i32_399
  let v390 : BitVec 32 := Scalar.addi v388 v389
  v390.toNat
def k0_dev13 (d0 : Dev nD) : Nat :=
  let c0_i32_445 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_444 : BitVec 32 := 2#32
  let v429 : BitVec 32 := Scalar.muli v2 c2_i32_444
  let v430 : BitVec 32 := Scalar.addi c0_i32_445 v429
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_446 : BitVec 32 := 1#32
  let v431 : BitVec 32 := Scalar.muli v7 c1_i32_446
  let v432 : BitVec 32 := Scalar.addi v430 v431
  v432.toNat
def k0_dev14 (d0 : Dev nD) : Nat :=
  let c0_i32_487 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_486 : BitVec 32 := 2#32
  let v471 : BitVec 32 := Scalar.muli v6 c2_i32_486
  let v472 : BitVec 32 := Scalar.addi c0_i32_487 v471
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_488 : BitVec 32 := 1#32
  let v473 : BitVec 32 := Scalar.muli v5 c1_i32_488
  let v474 : BitVec 32 := Scalar.addi v472 v473
  v474.toNat
def k0_dev15 (d0 : Dev nD) : Nat :=
  let c0_i32_534 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_533 : BitVec 32 := 2#32
  let v513 : BitVec 32 := Scalar.muli v2 c2_i32_533
  let v514 : BitVec 32 := Scalar.addi c0_i32_534 v513
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_535 : BitVec 32 := 1#32
  let v515 : BitVec 32 := Scalar.muli v7 c1_i32_535
  let v516 : BitVec 32 := Scalar.addi v514 v515
  v516.toNat
def k0_dev16 (d0 : Dev nD) : Nat :=
  let c0_i32_576 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_575 : BitVec 32 := 2#32
  let v555 : BitVec 32 := Scalar.muli v6 c2_i32_575
  let v556 : BitVec 32 := Scalar.addi c0_i32_576 v555
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_577 : BitVec 32 := 1#32
  let v557 : BitVec 32 := Scalar.muli v5 c1_i32_577
  let v558 : BitVec 32 := Scalar.addi v556 v557
  v558.toNat
def k0_dev17 (d0 : Dev nD) : Nat :=
  let c0_i32_623 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_622 : BitVec 32 := 2#32
  let v597 : BitVec 32 := Scalar.muli v2 c2_i32_622
  let v598 : BitVec 32 := Scalar.addi c0_i32_623 v597
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_624 : BitVec 32 := 1#32
  let v599 : BitVec 32 := Scalar.muli v7 c1_i32_624
  let v600 : BitVec 32 := Scalar.addi v598 v599
  v600.toNat
def k0_dev18 (d0 : Dev nD) : Nat :=
  let c0_i32_665 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_664 : BitVec 32 := 2#32
  let v639 : BitVec 32 := Scalar.muli v6 c2_i32_664
  let v640 : BitVec 32 := Scalar.addi c0_i32_665 v639
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_666 : BitVec 32 := 1#32
  let v641 : BitVec 32 := Scalar.muli v5 c1_i32_666
  let v642 : BitVec 32 := Scalar.addi v640 v641
  v642.toNat
def k0_dev19 (d0 : Dev nD) : Nat :=
  let c0_i32_712 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_711 : BitVec 32 := 2#32
  let v681 : BitVec 32 := Scalar.muli v2 c2_i32_711
  let v682 : BitVec 32 := Scalar.addi c0_i32_712 v681
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_713 : BitVec 32 := 1#32
  let v683 : BitVec 32 := Scalar.muli v7 c1_i32_713
  let v684 : BitVec 32 := Scalar.addi v682 v683
  v684.toNat
def k0_dev20 (d0 : Dev nD) : Nat :=
  let c0_i32_754 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_753 : BitVec 32 := 2#32
  let v723 : BitVec 32 := Scalar.muli v6 c2_i32_753
  let v724 : BitVec 32 := Scalar.addi c0_i32_754 v723
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_755 : BitVec 32 := 1#32
  let v725 : BitVec 32 := Scalar.muli v5 c1_i32_755
  let v726 : BitVec 32 := Scalar.addi v724 v725
  v726.toNat
def k0_dev21 (d0 : Dev nD) : Nat :=
  let c0_i32_801 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_800 : BitVec 32 := 2#32
  let v765 : BitVec 32 := Scalar.muli v2 c2_i32_800
  let v766 : BitVec 32 := Scalar.addi c0_i32_801 v765
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_802 : BitVec 32 := 1#32
  let v767 : BitVec 32 := Scalar.muli v7 c1_i32_802
  let v768 : BitVec 32 := Scalar.addi v766 v767
  v768.toNat
def k0_dev22 (d0 : Dev nD) : Nat :=
  let c0_i32_843 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_842 : BitVec 32 := 2#32
  let v807 : BitVec 32 := Scalar.muli v6 c2_i32_842
  let v808 : BitVec 32 := Scalar.addi c0_i32_843 v807
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_844 : BitVec 32 := 1#32
  let v809 : BitVec 32 := Scalar.muli v5 c1_i32_844
  let v810 : BitVec 32 := Scalar.addi v808 v809
  v810.toNat
def k0_dev23 (d0 : Dev nD) : Nat :=
  let c0_i32_890 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_889 : BitVec 32 := 2#32
  let v849 : BitVec 32 := Scalar.muli v2 c2_i32_889
  let v850 : BitVec 32 := Scalar.addi c0_i32_890 v849
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_891 : BitVec 32 := 1#32
  let v851 : BitVec 32 := Scalar.muli v7 c1_i32_891
  let v852 : BitVec 32 := Scalar.addi v850 v851
  v852.toNat
def k0_dev24 (d0 : Dev nD) : Nat :=
  let c0_i32_932 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_931 : BitVec 32 := 2#32
  let v891 : BitVec 32 := Scalar.muli v6 c2_i32_931
  let v892 : BitVec 32 := Scalar.addi c0_i32_932 v891
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_933 : BitVec 32 := 1#32
  let v893 : BitVec 32 := Scalar.muli v5 c1_i32_933
  let v894 : BitVec 32 := Scalar.addi v892 v893
  v894.toNat
def k0_dev25 (d0 : Dev nD) : Nat :=
  let c0_i32_979 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_978 : BitVec 32 := 2#32
  let v933 : BitVec 32 := Scalar.muli v2 c2_i32_978
  let v934 : BitVec 32 := Scalar.addi c0_i32_979 v933
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_980 : BitVec 32 := 1#32
  let v935 : BitVec 32 := Scalar.muli v7 c1_i32_980
  let v936 : BitVec 32 := Scalar.addi v934 v935
  v936.toNat
def k0_dev26 (d0 : Dev nD) : Nat :=
  let c0_i32_1021 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_1020 : BitVec 32 := 2#32
  let v975 : BitVec 32 := Scalar.muli v6 c2_i32_1020
  let v976 : BitVec 32 := Scalar.addi c0_i32_1021 v975
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1022 : BitVec 32 := 1#32
  let v977 : BitVec 32 := Scalar.muli v5 c1_i32_1022
  let v978 : BitVec 32 := Scalar.addi v976 v977
  v978.toNat
def k0_dev27 (d0 : Dev nD) : Nat :=
  let c0_i32_1068 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1067 : BitVec 32 := 2#32
  let v1017 : BitVec 32 := Scalar.muli v2 c2_i32_1067
  let v1018 : BitVec 32 := Scalar.addi c0_i32_1068 v1017
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1069 : BitVec 32 := 1#32
  let v1019 : BitVec 32 := Scalar.muli v7 c1_i32_1069
  let v1020 : BitVec 32 := Scalar.addi v1018 v1019
  v1020.toNat
def k0_dev28 (d0 : Dev nD) : Nat :=
  let c0_i32_1110 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_1109 : BitVec 32 := 2#32
  let v1059 : BitVec 32 := Scalar.muli v6 c2_i32_1109
  let v1060 : BitVec 32 := Scalar.addi c0_i32_1110 v1059
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1111 : BitVec 32 := 1#32
  let v1061 : BitVec 32 := Scalar.muli v5 c1_i32_1111
  let v1062 : BitVec 32 := Scalar.addi v1060 v1061
  v1062.toNat
def k0_dev29 (d0 : Dev nD) : Nat :=
  let c0_i32_1157 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1156 : BitVec 32 := 2#32
  let v1101 : BitVec 32 := Scalar.muli v2 c2_i32_1156
  let v1102 : BitVec 32 := Scalar.addi c0_i32_1157 v1101
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1158 : BitVec 32 := 1#32
  let v1103 : BitVec 32 := Scalar.muli v7 c1_i32_1158
  let v1104 : BitVec 32 := Scalar.addi v1102 v1103
  v1104.toNat
def k0_dev30 (d0 : Dev nD) : Nat :=
  let c0_i32_1199 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_1198 : BitVec 32 := 2#32
  let v1143 : BitVec 32 := Scalar.muli v6 c2_i32_1198
  let v1144 : BitVec 32 := Scalar.addi c0_i32_1199 v1143
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1200 : BitVec 32 := 1#32
  let v1145 : BitVec 32 := Scalar.muli v5 c1_i32_1200
  let v1146 : BitVec 32 := Scalar.addi v1144 v1145
  v1146.toNat
def k0_dev31 (d0 : Dev nD) : Nat :=
  let c0_i32_1246 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1245 : BitVec 32 := 2#32
  let v1185 : BitVec 32 := Scalar.muli v2 c2_i32_1245
  let v1186 : BitVec 32 := Scalar.addi c0_i32_1246 v1185
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1247 : BitVec 32 := 1#32
  let v1187 : BitVec 32 := Scalar.muli v7 c1_i32_1247
  let v1188 : BitVec 32 := Scalar.addi v1186 v1187
  v1188.toNat
def k0_dev32 (d0 : Dev nD) : Nat :=
  let c0_i32_1283 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_1282 : BitVec 32 := 2#32
  let v1221 : BitVec 32 := Scalar.muli v6 c2_i32_1282
  let v1222 : BitVec 32 := Scalar.addi c0_i32_1283 v1221
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1284 : BitVec 32 := 1#32
  let v1223 : BitVec 32 := Scalar.muli v5 c1_i32_1284
  let v1224 : BitVec 32 := Scalar.addi v1222 v1223
  v1224.toNat
def k0_dev33 (d0 : Dev nD) : Nat :=
  let c0_i32_1330 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1329 : BitVec 32 := 2#32
  let v1263 : BitVec 32 := Scalar.muli v2 c2_i32_1329
  let v1264 : BitVec 32 := Scalar.addi c0_i32_1330 v1263
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1331 : BitVec 32 := 1#32
  let v1265 : BitVec 32 := Scalar.muli v7 c1_i32_1331
  let v1266 : BitVec 32 := Scalar.addi v1264 v1265
  v1266.toNat
def k0_dev34 (d0 : Dev nD) : Nat :=
  let c0_i32_1382 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1381 : BitVec 32 := 2#32
  let v1311 : BitVec 32 := Scalar.muli v2 c2_i32_1381
  let v1312 : BitVec 32 := Scalar.addi c0_i32_1382 v1311
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1383 : BitVec 32 := 1#32
  let v1313 : BitVec 32 := Scalar.muli v7 c1_i32_1383
  let v1314 : BitVec 32 := Scalar.addi v1312 v1313
  v1314.toNat
abbrev stage0_0 : Fin 1 → Memref sig .tc .vmem S2048x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S4096x4096 : Shape := ⟨2, ![4096, 4096]⟩

abbrev nBuf : Space → Nat
  | .hbm => 3
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Steps.lean ====
module

public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.Regions

/-! The kernel body, written as sixteen runs of one step.

The printed body is a straight line of some five hundred operations. Here the memory it works on is
named by step (`aWin`, `aSlot`, …), one step is written once for every step number, and `body_eq`
says that the printed body is the prologue, the sixteen steps and the epilogue one after another. -/

@[expose] public section

noncomputable section

namespace Cert.TwoPhase

open Idealize.ShloMosaic Idealize.SL.Sem
open Cert.KernelIdeal Cert.KernelIdeal.Gen

/-- The programs of a TensorCore over the float values `F`. -/
abbrev Code (F : FTy → Type) := Prog (TpuEff nD τ sig (Elt F) Λ₀ .tc) PUnit

/-- Which of two slots step `i` works in. -/
def par (i : Fin 16) : Fin 2 := ⟨i.val % 2, Nat.mod_lt _ (by decide)⟩

/-- The step number `n`, for `n` below sixteen. -/
def stepNo (n : ℕ) : Fin 16 := ⟨n % 16, Nat.mod_lt _ (by decide)⟩

theorem slotA_inb (s : Fin 2) : ∀ a, (![s.val, 0, 0] : Fin 3 → ℕ) a + S1x128x2048.size a ≤ S2x128x2048.size a := by
  revert s; decide
theorem slotP_inb (s : Fin 2) : ∀ a, (![s.val, 0, 0] : Fin 3 → ℕ) a + S1x128x4096.size a ≤ S2x128x4096.size a := by
  revert s; decide
theorem recv_inb (i : Fin 16) : ∀ a, (![128 * i.val, 0] : Fin 2 → ℕ) a + S128x4096.size a ≤ S2048x4096.size a := by
  revert i; decide
theorem sem2_inb (s : Fin 2) : ∀ a, (![s.val] : Fin 1 → ℕ) a + S1.size a ≤ S2.size a := by
  revert s; decide
theorem sem16_inb (i : Fin 16) : ∀ a, (![i.val] : Fin 1 → ℕ) a + S1.size a ≤ S16.size a := by
  revert i; decide

/-- The rectangle of slot `s` of the `A` scratch. -/
def rectA (s : Fin 2) : Rect S2x128x2048 := Rect.unit (s := S2x128x2048) ![s.val, 0, 0] S1x128x2048.size (slotA_inb s)
/-- The rectangle of slot `s` of a scratch of two product blocks. -/
def rectP (s : Fin 2) : Rect S2x128x4096 := Rect.unit (s := S2x128x4096) ![s.val, 0, 0] S1x128x4096.size (slotP_inb s)

/-- The rows of `A` device `d` multiplies at step `i`. -/
def aWin (d : Dev nD) (i : Fin 16) : Memref sig .tc .hbm S128x2048 .f32 :=
  (Memref.whole main_arg0).slice (Rect.unit (s := S4096x2048) (k0_off1 d (BitVec.ofNat 32 (128 * i.val))) S128x2048.size (k0_off1_inb d i)) (fun _ => rfl)
/-- Slot `s` of the scratch that holds rows of `A`. -/
def aSlot (s : Fin 2) : Memref sig .tc .vmem S128x2048 .f32 :=
  ((Memref.whole cc0_scratch0).slice (rectA s) (fun _ => rfl)).squeeze S128x2048 squeezes_S1x128x2048_S128x2048
/-- Slot `s` of the scratch that holds partial products. -/
def pSlot (s : Fin 2) : Memref sig .tc .vmem S128x4096 .f32 :=
  ((Memref.whole cc0_scratch1).slice (rectP s) (fun _ => rfl)).squeeze S128x4096 squeezes_S1x128x4096_S128x4096
/-- Slot `s` of the scratch that holds sums. -/
def ySlot (s : Fin 2) : Memref sig .tc .vmem S128x4096 .f32 :=
  ((Memref.whole cc0_scratch3).slice (rectP s) (fun _ => rfl)).squeeze S128x4096 squeezes_S1x128x4096_S128x4096
/-- Where the partial product of step `i` arrives. -/
def rWin (i : Fin 16) : Memref sig .tc .hbm S128x4096 .f32 :=
  (Memref.whole main_v1_1).slice (Rect.unit (s := S2048x4096) ![128 * i.val, 0] S128x4096.size (recv_inb i)) (fun _ => rfl)
/-- The rows of the result device `d` computes at step `i`. -/
def oWin (d : Dev nD) (i : Fin 16) : Memref sig .tc .hbm S128x4096 .f32 :=
  (Memref.whole main_v1_0).slice (Rect.unit (s := S4096x4096) (k0_off2 d (BitVec.ofNat 32 (128 * i.val))) S128x4096.size (k0_off2_inb d i)) (fun _ => rfl)

/-- The barrier semaphore. -/
def barS : Sem sig := (SemArray.scalar (sig.barrier 0 rfl) : Sems sig S_).sem
/-- The semaphore of the load of `A` into slot `s`. -/
def aSem (s : Fin 2) : DmaSem sig := ((cc0_scratch4.slice (Rect.unit (s := S2) ![s.val] S1.size (sem2_inb s))).squeeze S_ squeezes_S1_S_).sem
/-- The semaphore of the load of a received product. -/
def tSem : DmaSem sig := cc0_scratch5.sem
/-- The semaphore of the store of slot `s` into the result. -/
def oSem (s : Fin 2) : DmaSem sig := ((cc0_scratch6.slice (Rect.unit (s := S2) ![s.val] S1.size (sem2_inb s))).squeeze S_ squeezes_S1_S_).sem
/-- The semaphore told when the product in slot `s` has left. -/
def sxSem (s : Fin 2) : DmaSem sig := ((cc0_scratch7.slice (Rect.unit (s := S2) ![s.val] S1.size (sem2_inb s))).squeeze S_ squeezes_S1_S_).sem
/-- The semaphore told when the product of step `i` has arrived. -/
def rxSem (i : Fin 16) : DmaSem sig := ((cc0_scratch8.slice (Rect.unit (s := S16) ![i.val] S1.size (sem16_inb i))).squeeze S_ squeezes_S1_S_).sem
/-- The semaphore told when the sum in slot `s` has left. -/
def sySem (s : Fin 2) : DmaSem sig := ((cc0_scratch9.slice (Rect.unit (s := S2) ![s.val] S1.size (sem2_inb s))).squeeze S_ squeezes_S1_S_).sem
/-- The semaphore told when the sum of step `i` has arrived. -/
def rySem (i : Fin 16) : DmaSem sig := ((cc0_scratch10.slice (Rect.unit (s := S16) ![i.val] S1.size (sem16_inb i))).squeeze S_ squeezes_S1_S_).sem

/-- The device with the other half of the inner dimension. -/
def px (d : Dev nD) : Dev nD := ⟨k0_dev1 d, k0_dev1_lt d⟩
/-- The device with the other half of the rows. -/
def py (d : Dev nD) : Dev nD := ⟨k0_dev2 d, k0_dev2_lt d⟩

variable {F : FTy → Type} [FloatOps F]

/-- Start the load of the rows of step `i`. -/
def loadA (d : Dev nD) (i : Fin 16) : Code F :=
  Prog.lift (.enqueueDma (aWin d i) (.here (aSlot (par i))) (.dma (aSem (par i))) (View.wordExact_bits rfl) ((View.wordExact_bits rfl).reshape _ _) ⟨Or.inl rfl, trivial⟩)

/-- Wait for the load of the rows of step `i`. -/
def waitA (d : Dev nD) (i : Fin 16) : Code F :=
  Prog.lift (.waitDma2 (aSem (par i)) (aWin d i) (aSlot (par i)) (View.wordExact_bits rfl) ((View.wordExact_bits rfl).reshape _ _))

/-- Multiply the rows in slot `s` into slot `s` of the products. -/
def multiply (s : Fin 2) : Code F := do
  let v ← Prog.lift (.load (Memref.whole cc0_scratch0) (rectA s).toLoadRect (View.loadsAt_vmem h_S1x128x2048))
  let w ← Prog.lift (.load (Memref.whole cc0_stg0_0) (Rect.unit (s := S2048x4096) ![0, 0] S2048x4096.size inb_S2048x4096_S2048x4096_0_0).toLoadRect (View.loadsAt_vmem h_S2048x4096))
  let _ ← Prog.lift (.load (Memref.whole cc0_scratch1) (rectP s).toLoadRect (View.loadsAt_vmem h_S1x128x4096))
  Prog.lift (.store (Memref.whole cc0_scratch1) (rectP s) (k0_pay1 v w) Finset.univ (View.stores_vmem_bits_univ h_S1x128x4096 rfl) (.inl rfl))

/-- Send the product of step `i` to the device with the other half of the inner dimension. -/
def sendX (d : Dev nD) (i : Fin 16) : Code F :=
  Prog.lift (.enqueueDma (pSlot (par i)) (.remote (Dev.tc (px d)) (rWin i) (.dma (sxSem (par i)))) (.dma (rxSem i)) ((View.wordExact_bits rfl).reshape _ _) (View.wordExact_bits rfl) ⟨⟨rfl, Or.inl rfl⟩, trivial⟩)

/-- Wait until the product of step `i` has left its slot. -/
def waitSx (i : Fin 16) : Code F :=
  Prog.lift (.waitDma2 (sxSem (par i)) (rWin i) (pSlot (par i)) (View.wordExact_bits rfl) ((View.wordExact_bits rfl).reshape _ _))

/-- Wait until the product of step `j` has arrived. -/
def waitRx (j : Fin 16) : Code F :=
  Prog.lift (.waitDma2 (rxSem j) (pSlot (par j)) (rWin j) ((View.wordExact_bits rfl).reshape _ _) (View.wordExact_bits rfl))

/-- Start the load of the product that arrived for step `j`. -/
def loadT (j : Fin 16) : Code F :=
  Prog.lift (.enqueueDma (rWin j) (.here (Memref.whole cc0_scratch2)) (.dma tSem) (View.wordExact_bits rfl) (Memref.isWhole_whole _).wordExact ⟨Or.inl rfl, trivial⟩)

/-- Wait for the load of the product that arrived for step `j`. -/
def waitT (j : Fin 16) : Code F :=
  Prog.lift (.waitDma2 tSem (rWin j) (Memref.whole cc0_scratch2) (View.wordExact_bits rfl) (Memref.isWhole_whole _).wordExact)

/-- Add the loaded product to the product in slot `s`, into slot `s` of the sums. -/
def addUp (s : Fin 2) : Code F := do
  let v ← Prog.lift (.load (Memref.whole cc0_scratch1) (rectP s).toLoadRect (View.loadsAt_vmem h_S1x128x4096))
  let w ← Prog.lift (.load (Memref.whole cc0_scratch2) (Rect.unit (s := S128x4096) ![0, 0] S128x4096.size inb_S128x4096_S128x4096_0_0).toLoadRect (View.loadsAt_vmem h_S128x4096))
  let _ ← Prog.lift (.load (Memref.whole cc0_scratch3) (rectP s).toLoadRect (View.loadsAt_vmem h_S1x128x4096))
  Prog.lift (.store (Memref.whole cc0_scratch3) (rectP s) (k0_pay3 v w) Finset.univ (View.stores_vmem_bits_univ h_S1x128x4096 rfl) (.inl rfl))

/-- Send the sum of step `j` to the device with the other half of the rows. -/
def sendY (d : Dev nD) (j : Fin 16) : Code F :=
  Prog.lift (.enqueueDma (ySlot (par j)) (.remote (Dev.tc (py d)) (oWin d j) (.dma (sySem (par j)))) (.dma (rySem j)) ((View.wordExact_bits rfl).reshape _ _) (View.wordExact_bits rfl) ⟨⟨rfl, Or.inl rfl⟩, trivial⟩)

/-- Start the store of the sum of step `j` into the result. -/
def storeO (d : Dev nD) (j : Fin 16) : Code F :=
  Prog.lift (.enqueueDma (ySlot (par j)) (.here (oWin d j)) (.dma (oSem (par j))) ((View.wordExact_bits rfl).reshape _ _) (View.wordExact_bits rfl) ⟨Or.inl rfl, trivial⟩)

/-- Wait until the sum of step `j` has left its slot. -/
def waitSy (d : Dev nD) (j : Fin 16) : Code F :=
  Prog.lift (.waitDma2 (sySem (par j)) (oWin d j) (ySlot (par j)) (View.wordExact_bits rfl) ((View.wordExact_bits rfl).reshape _ _))

/-- Wait until the sum of step `j` is stored. -/
def waitO (d : Dev nD) (j : Fin 16) : Code F :=
  Prog.lift (.waitDma2 (oSem (par j)) (ySlot (par j)) (oWin d j) ((View.wordExact_bits rfl).reshape _ _) (View.wordExact_bits rfl))

/-- Wait until the sum of step `j` has arrived. -/
def waitRy (d : Dev nD) (j : Fin 16) : Code F :=
  Prog.lift (.waitDma2 (rySem j) (ySlot (par j)) (oWin d j) ((View.wordExact_bits rfl).reshape _ _) (View.wordExact_bits rfl))

/-- Make the slot of product `i` empty. -/
def emptyP (i : Fin 16) : Code F :=
  if 2 ≤ i.val then waitSx (stepNo (i.val - 2)) else pure ⟨⟩

/-- Send for the rows of the step after `i`. -/
def more (d : Dev nD) (i : Fin 16) : Code F :=
  if i.val < 15 then loadA d (stepNo (i.val + 1)) else pure ⟨⟩

/-- Make the slot of sum `j` empty. -/
def emptyY (d : Dev nD) (j : Fin 16) : Code F :=
  if 2 ≤ j.val then (do waitSy d (stepNo (j.val - 2)); waitO d (stepNo (j.val - 2))) else pure ⟨⟩

/-- The first half of step `i`: the product, sent. -/
def product (d : Dev nD) (i : Fin 16) : Code F := do
  emptyP i
  waitA d i
  more d i
  multiply (par i)
  sendX d i

/-- The second half of step `j`: the sum, sent and stored. -/
def reduce (d : Dev nD) (j : Fin 16) : Code F := do
  waitRx j
  loadT j
  emptyY d j
  waitT j
  addUp (par j)
  sendY d j
  storeO d j

/-- The product of step `i` and the sum of the step before. -/
def step (d : Dev nD) (i : Fin 16) : Code F := do
  product d i
  if 1 ≤ i.val then reduce d (stepNo (i.val - 1)) else pure ⟨⟩

/-- The waits for the last `n` sums. -/
def arrivals (d : Dev nD) : ℕ → Code F
  | 0 => pure ⟨⟩
  | n + 1 => do
    waitRy d (stepNo (15 - n))
    arrivals d n

/-- What follows the sixteen steps. -/
def epilogue (d : Dev nD) : Code F := do
  reduce d 15
  waitSx 14
  waitSx 15
  waitSy d 14
  waitSy d 15
  waitO d 14
  waitO d 15
  arrivals d 16

/-- The last `n` steps and what follows them. -/
def steps (d : Dev nD) : ℕ → Code F
  | 0 => epilogue d
  | n + 1 => do
    step d (stepNo (15 - n))
    steps d n

/-- The whole body. -/
def body : Code F := do
  let d ← Prog.lift .deviceId
  semSignalWord (px d) barS 1#32
  semSignalWord (py d) barS 1#32
  semWaitWord barS 2#32
  loadA d 0
  steps d 16

set_option maxRecDepth 65536 in
/-- The printed body is `body`. -/
theorem body_eq (t : Fin cfg0.N) : bodyAt0 (F := F) t = body := by
  rw [fin_N0 t]
  chain_rfl

end Cert.TwoPhase

end
-- ==== Proof.Ghost.lean ====
module

public import proofs.«01_k».proof.Proof.Steps
public import Idealize.ShloMosaic.Lib.Pipeline.Launch
public import Idealize.ShloMosaic.Lib.Pipeline.Kit
public import Idealize.ShloMosaic.Lib.Transfers
public import Idealize.ShloMosaic.Lib.Tactic

/-! What the devices owe each other.

Every device has thirty-three semaphores that another device raises: the barrier, the arrivals of
sixteen partial products from `px`, the arrivals of sixteen sums from `py`. Each is raised once for
each of its senders and waited for once, so each is one round of a schedule whose payload is what the
sender hands over. -/

@[expose] public section

noncomputable section

namespace Cert.TwoPhase

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Cert.KernelIdeal Cert.KernelIdeal.Gen

variable {F : FTy → Type} [FloatOps F]

/-! ## The resource algebra -/

/-- The rounds between devices, and the counters of a device's own transfers. -/
abbrev UC : Type := URounds (GSem nD τ sig) Bool × Counters
/-- The launch's own rounds beside them. -/
abbrev UU : Type := UR sig nD τ × UC

local notation "𝕄" => MT nD τ sig Unit (Elt F) ℕ UU ℕ

/-- Where the launch's rounds live. -/
abbrev EP : Emb (UR sig nD τ) (MT nD τ sig Unit (Elt F) ℕ UU ℕ) := embL
/-- Where the rounds between devices live. -/
def ER : Emb (URounds (GSem nD τ sig) Bool) (MT nD τ sig Unit (Elt F) ℕ UU ℕ) :=
  (Emb.inl : Emb (URounds (GSem nD τ sig) Bool) UC).trans embR
/-- Where the counters of a device's own transfers live. -/
abbrev EC : UEmb Counters (MT nD τ sig Unit (Elt F) ℕ UU ℕ) := countersEmb (U := UU)

omit [FloatOps F] in
instance ER_landsIn : (ER : Emb (URounds (GSem nD τ sig) Bool) 𝕄).LandsIn (upEmb : UEmb _ 𝕄) := by
  unfold ER; infer_instance
omit [FloatOps F] in
instance EC_landsIn : (EC : UEmb Counters 𝕄).LandsIn (upEmb : UEmb _ 𝕄) := by
  infer_instance

/-! ## The mesh -/

theorem px_px (d : Dev nD) : px (px d) = d := by
  refine Fin.ext ?_
  show k0_dev1 (px d) = d.val
  rw [k0_dev1_eq]
  show ((k0_dev1 d % 2) + 2) - 2 * (k0_dev1 d / 2) = d.val
  rw [k0_dev1_eq]
  revert d; decide
theorem py_py (d : Dev nD) : py (py d) = d := by
  refine Fin.ext ?_
  show k0_dev2 (py d) = d.val
  rw [k0_dev2_eq]
  show (2 * (k0_dev2 d / 2) + 1) - k0_dev2 d % 2 = d.val
  rw [k0_dev2_eq]
  revert d; decide

/-- Exchanging the halves of the inner dimension. -/
def flipX : Dev nD ≃ Dev nD := ⟨px, px, px_px, px_px⟩
/-- Exchanging the halves of the rows. -/
def flipY : Dev nD ≃ Dev nD := ⟨py, py, py_py, py_py⟩

/-! ## The cells -/

/-- The semaphores other devices raise: the barrier, and by direction and step the arrivals. -/
abbrev Tag : Type := Option (Bool × Fin 16)

/-- The semaphore of a tag. -/
def csem : Tag → SemLoc sig
  | none => .reg barS
  | some (false, i) => .dma (rxSem i)
  | some (true, i) => .dma (rySem i)

theorem rxSem_val (i : Fin 16) : (rxSem i).val = 8 + i.val := by revert i; decide
theorem rySem_val (i : Fin 16) : (rySem i).val = 26 + i.val := by revert i; decide

/-- The tag of a semaphore, if it has one. -/
def tagOf : SemLoc sig → Option Tag
  | .reg _ => some none
  | .dma q =>
    if h : 26 ≤ q.val then some (some (true, ⟨(q.val - 26) % 16, Nat.mod_lt _ (by decide)⟩))
    else if 8 ≤ q.val ∧ q.val < 24 then some (some (false, ⟨(q.val - 8) % 16, Nat.mod_lt _ (by decide)⟩))
    else none

theorem tagOf_csem (t : Tag) : tagOf (csem t) = some t := by
  match t with
  | none => rfl
  | some (false, i) =>
    have hv := rxSem_val i
    have hi := i.isLt
    simp only [csem, tagOf]
    rw [dif_neg (by omega), if_pos (by omega)]
    exact congrArg (fun j => some (some (false, j))) (Fin.ext (by show ((rxSem i).val - 8) % 16 = i.val; omega))
  | some (true, i) =>
    have hv := rySem_val i
    have hi := i.isLt
    simp only [csem, tagOf]
    rw [dif_pos (by omega)]
    exact congrArg (fun j => some (some (true, j))) (Fin.ext (by show ((rySem i).val - 26) % 16 = i.val; omega))

theorem csem_inj : Function.Injective csem := fun s t h =>
  Option.some.inj ((tagOf_csem s).symm.trans ((congrArg tagOf h).trans (tagOf_csem t)))

/-- The cell of tag `t` on device `c`. -/
abbrev cell (c : Dev nD) (t : Tag) : GSem nD τ sig := ((c : Thread nD τ), csem t)
/-- The barrier's cell. -/
abbrev barCell (c : Dev nD) : GSem nD τ sig := ((c : Thread nD τ), .reg barS)
/-- The cell of the arrival of product `i`. -/
abbrev rxCell (c : Dev nD) (i : Fin 16) : GSem nD τ sig := ((c : Thread nD τ), .dma (rxSem i))
/-- The cell of the arrival of sum `i`. -/
abbrev ryCell (c : Dev nD) (i : Fin 16) : GSem nD τ sig := ((c : Thread nD τ), .dma (rySem i))

/-- The credit of one product block. -/
def NP : ℕ := (rWin 0).view.dmaCredit
/-- The credit of one block of rows of `A`. -/
def NA : ℕ := (aSlot 0).view.dmaCredit
theorem NP_pos : 0 < NP := View.dmaCredit_pos _ (by decide)
theorem NA_pos : 0 < NA := View.dmaCredit_pos _ (by decide)

/-! ## The blocks -/

/-- The product of a block of rows and the staged `B`. -/
def mulBlock (a : FVec F S128x2048 .f32) (w : FVec F S2048x4096 .f32) : FVec F S128x4096 .f32 :=
  matmul dot_S128x2048_S2048x4096_S128x4096_1_0_0_1_n_n none a (shapeCast S2048x4096 w shapeCasts_S2048x4096_S2048x4096) (constant S128x4096 .f32 0x00000000#32)

/-- The printed product is `mulBlock` under shape casts. -/
theorem pay1_of (v : Vec F S1x128x2048 .f32) (w : Vec F S2048x4096 .f32) (a : FVec F S128x2048 .f32)
    (h : shapeCast S128x2048 v shapeCasts_S1x128x2048_S128x2048 = a) :
    k0_pay1 v w = shapeCast S1x128x4096 (mulBlock a w) shapeCasts_S128x4096_S1x128x4096 := by
  subst h; rfl

/-- The printed sum is `addf` under shape casts. -/
theorem pay3_of (v : Vec F S1x128x4096 .f32) (w p : FVec F S128x4096 .f32)
    (h : shapeCast S128x4096 v shapeCasts_S1x128x4096_S128x4096 = p) :
    k0_pay3 v w = shapeCast S1x128x4096 (addf p w : FVec F S128x4096 .f32) shapeCasts_S128x4096_S1x128x4096 := by
  subst h; rfl

variable (m : (ℓ : Loc nD τ sig) → Buf (Elt F) ℓ)

/-- The rows of `A` device `c` multiplies at step `i`. -/
def rowsA (c : Dev nD) (i : Fin 16) : FVec F S128x2048 .f32 :=
  (aWin c i).view.read (Elt F) (m ((c : Thread nD τ).loc main_arg0))
/-- The device's `B`, as staged. -/
def bStg (c : Dev nD) : FVec F S2048x4096 .f32 :=
  (win0_0.blk (0 : Fin 1)).view.read (Elt F) (m ((c : Thread nD τ).loc main_arg1))
/-- The partial product of step `i` on device `c`. -/
def prodAt (c : Dev nD) (i : Fin 16) : FVec F S128x4096 .f32 := mulBlock (rowsA m c i) (bStg m c)
/-- The sum of step `i` on device `c`. -/
def sumAt (c : Dev nD) (i : Fin 16) : FVec F S128x4096 .f32 := addf (prodAt m c i) (prodAt m (px c) i)

/-! ## The payloads -/

/-- The memref's elements on device `c`, at any contents. -/
def free {sp : Space} {sh : Shape} {e : EltTy} (c : Dev nD) (M : Memref sig .tc sp sh e) : sProp 𝕄 :=
  iprop(∃ f, M.view.loc (c : Thread nD τ) ↦[M.view.set]{fullShare} f)

/-- The memref's elements on device `c` at share `q`, read as `X`. -/
abbrev has {sp : Space} {sh : Shape} {e : EltTy} (c : Dev nD) (M : Memref sig .tc sp sh e) (q : PosShare TreeShare) (X : sh.Idx → Elt F e) : sProp 𝕄 :=
  owns (c : Thread nD τ) M q X

omit [FloatOps F] in
instance free_storable {sp : Space} {sh : Shape} {e : EltTy} (c : Dev nD) (M : Memref sig .tc sp sh e) :
    BI.Storable (upEmb : UEmb _ 𝕄) (free (F := F) c M) := by unfold free; infer_instance

/-- What `px c` hands `c` at the barrier: where `c`'s products may be written. -/
def barX (c : Dev nD) : sProp 𝕄 := bigSep Finset.univ fun i : Fin 16 => free (F := F) (px c) (rWin i)
/-- What `py c` hands `c` at the barrier: where `c`'s sums may be written. -/
def barY (c : Dev nD) : sProp 𝕄 := bigSep Finset.univ fun i : Fin 16 => free (F := F) (py c) (oWin c i)
/-- What arrives from `px c`. -/
def gotX (c : Dev nD) (i : Fin 16) : sProp 𝕄 := has c (rWin i) fullShare (prodAt m (px c) i)
/-- What arrives from `py c`. -/
def gotY (c : Dev nD) (i : Fin 16) : sProp 𝕄 := has c (oWin (py c) i) fullShare (sumAt m (py c) i)

/-- The payload of tag `t` on device `c`; the barrier's two senders are told apart by `d`. -/
def payOf (c : Dev nD) (d : Bool) : Option Tag → sProp 𝕄
  | some none => bif d then barY c else barX c
  | some (some (false, i)) => gotX m c i
  | some (some (true, i)) => gotY m c i
  | none => iprop(emp)

omit [FloatOps F] in
instance barX_storable (c : Dev nD) : BI.Storable (upEmb : UEmb _ 𝕄) (barX (F := F) c) := by unfold barX; infer_instance
omit [FloatOps F] in
instance barY_storable (c : Dev nD) : BI.Storable (upEmb : UEmb _ 𝕄) (barY (F := F) c) := by unfold barY; infer_instance

instance payOf_storable (c : Dev nD) (d : Bool) (t : Option Tag) : BI.Storable (upEmb : UEmb _ 𝕄) (payOf m c d t) := by
  match t with
  | some none => cases d <;> (simp only [payOf, cond_true, cond_false]; infer_instance)
  | some (some (false, i)) => simp only [payOf, gotX]; infer_instance
  | some (some (true, i)) => simp only [payOf, gotY]; infer_instance
  | none => simp only [payOf]; infer_instance

/-- Which senders a tag has. -/
def dutiesOf : Option Tag → Finset Bool
  | some none => Finset.univ
  | some (some _) => {false}
  | none => ∅
/-- What each sender raises by. -/
def amountOf : Option Tag → ℕ
  | some none => 1
  | _ => NP
theorem amountOf_pos (t : Option Tag) : 0 < amountOf t := by
  match t with
  | some none => exact Nat.one_pos
  | some (some _) => exact NP_pos
  | none => exact NP_pos

/-- One round for each cell. -/
def Rd : Rounds.Schedule (GSem nD τ sig) Bool 𝕄 where
  duties g r := if r = 0 ∧ g.1.2 = .tc then dutiesOf (tagOf g.2) else ∅
  unitless _ := False
  amount g _ _ := amountOf (tagOf g.2)
  payload g _ d := payOf m g.1.1 d (tagOf g.2)
  amount_pos g _ _ _ := amountOf_pos _

instance Rd_payload_storable (g : GSem nD τ sig) (r : ℕ) (d : Bool) :
    BI.Storable (upEmb : UEmb _ 𝕄) ((Rd (F := F) m).payload g r d) :=
  payOf_storable m g.1.1 d (tagOf g.2)

theorem duties_cell (c : Dev nD) (t : Tag) : (Rd (F := F) m).duties (cell c t) 0 = dutiesOf (some t) := by
  dsimp only [Rd]
  rw [if_pos ⟨rfl, rfl⟩, tagOf_csem]
theorem duties_later (g : GSem nD τ sig) : ∀ r, 1 ≤ r → (Rd (F := F) m).duties g r = ∅ :=
  fun r hr => if_neg fun h => by have := h.1; omega
theorem amount_cell (c : Dev nD) (t : Tag) (r : ℕ) (d : Bool) : (Rd (F := F) m).amount (cell c t) r d = amountOf (some t) :=
  congrArg amountOf (tagOf_csem t)
theorem payload_cell (c : Dev nD) (t : Tag) (r : ℕ) (d : Bool) : (Rd (F := F) m).payload (cell c t) r d = payOf m c d (some t) :=
  congrArg (payOf m c d) (tagOf_csem t)

theorem expect_cell (c : Dev nD) (t : Tag) : (Rd (F := F) m).expect (cell c t) 0 = (dutiesOf (some t)).card * amountOf (some t) := by
  unfold Schedule.expect Schedule.amountOf
  rw [duties_cell, Finset.sum_congr rfl fun d _ => amount_cell m c t 0 d, Finset.sum_const, smul_eq_mul]

theorem expect_bar (c : Dev nD) : (Rd (F := F) m).expect (cell c none) 0 = 2 := by
  rw [expect_cell]; rfl
theorem expect_got (c : Dev nD) (p : Bool × Fin 16) : (Rd (F := F) m).expect (cell c (some p)) 0 = NP := by
  rw [expect_cell]; exact Nat.one_mul _

/-- The whole of the barrier's round: both neighbours' windows. -/
theorem all_bar (c : Dev nD) :
    bigSep ((Rd (F := F) m).duties (cell c none) 0 \ ∅) (fun d => (Rd m).payload (cell c none) 0 d) = iprop(barX c ∗ barY c) := by
  rw [Finset.sdiff_empty, duties_cell, bigSep_congr fun d _ => payload_cell m c none 0 d]
  show bigSep Finset.univ _ = _
  rw [bigSep_univ_eq_bigSepL [false, true] (by decide) (by decide), bigSepL_cons_cons, bigSepL_singleton]
  rfl
/-- The whole of an arrival's round: what arrived. -/
theorem all_got (c : Dev nD) (p : Bool × Fin 16) :
    bigSep ((Rd (F := F) m).duties (cell c (some p)) 0 \ ∅) (fun d => (Rd m).payload (cell c (some p)) 0 d) = payOf m c false (some (some p)) := by
  rw [Finset.sdiff_empty, duties_cell]
  show bigSep {false} _ = _
  rw [bigSep_singleton, payload_cell]

end Cert.TwoPhase

end
-- ==== Proof.Rules.lean ====
module

public import proofs.«01_k».proof.Proof.Ghost
public import Idealize.ShloMosaic.Lib.MemrefSat
public import Idealize.ShloMosaic.Lib.Pipeline.Value

/-! One operation at a time, in terms of what memrefs are read as.

A transfer under way is a `Flight` of what it will deliver; a wait takes the delivery. -/

@[expose] public section

noncomputable section

namespace Cert.TwoPhase

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Cert.KernelIdeal Cert.KernelIdeal.Gen

variable {F : FTy → Type} [FloatOps F]

local notation "𝕄" => MT nD τ sig Unit (Elt F) ℕ UU ℕ

/-- No loop of the kernel needs a variant. -/
abbrev 𝒱₀ : Variants := Variants.none

/-- Device `c` runs `p` and ends in `Q`. -/
def run {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-- What device `c` owes, whatever it has waited for. -/
def owing (c : Dev nD) (O : CellTallies nD τ sig Unit) : sProp 𝕄 := iprop(∃ W, owes (c : Thread nD τ) O W)

/-- A transfer on device `c`'s semaphore `sm` that will deliver `D`. -/
abbrev flying (c : Dev nD) (sm : DmaSem sig) (N : ℕ) (D : sProp 𝕄) : sProp 𝕄 :=
  Flight EC (c : Thread nD τ) (.dma sm) () N D

/-- Device `c`'s semaphore `sm` stands at zero. -/
abbrev idle (c : Dev nD) (sm : DmaSem sig) : sProp 𝕄 := semVal ((c : Thread nD τ), .dma sm) 0

/-- Running one program and then another. -/
theorem run_bind {α β : Type} (c : Dev nD) (p : Prog (TpuEff nD τ sig (Elt F) Λ₀ .tc) α) (k : α → Prog (TpuEff nD τ sig (Elt F) Λ₀ .tc) β) (Q : β → sProp 𝕄) :
    run c (p >>= k) Q = run c p fun a => run c (k a) Q := by
  unfold run; exact wp_bind _ _ _ p k Q

/-- Running nothing. -/
theorem run_pure {α : Type} (c : Dev nD) (a : α) (Q : α → sProp 𝕄) : Q a ⊢ run c (pure a) Q := by
  unfold run
  iintro H
  rw [show (pure a : Prog (TpuEff nD τ sig (Elt F) Λ₀ .tc) α) = .ret a from rfl, wp_ret]
  imodintro
  iexact H

section Shares
variable {sp : Space} {sh : Shape} {e : EltTy} (c : Dev nD) (M : Memref sig .tc sp sh e)

omit [FloatOps F] in
/-- The two halves of what is held whole. -/
theorem has_split (X : sh.Idx → Elt F e) : (has c M fullShare X : sProp 𝕄) ⊢ iprop(has c M fullShare.left X ∗ has c M fullShare.right X) :=
  (owns_halves (c : Thread nD τ) M fullShare X).1
omit [FloatOps F] in
/-- The two halves, joined. -/
theorem has_join (X : sh.Idx → Elt F e) : iprop(has c M fullShare.left X ∗ has c M fullShare.right X) ⊢ (has c M fullShare X : sProp 𝕄) :=
  (owns_halves (c : Thread nD τ) M fullShare X).2
omit [FloatOps F] in
/-- What is read as something is held at some contents. -/
theorem has_free (X : sh.Idx → Elt F e) : (has c M fullShare X : sProp 𝕄) ⊢ free c M := by
  unfold has owns free
  iintro ⟨%f, -, H⟩
  iexists f; iexact H
omit [FloatOps F] in
/-- After a write through the memref it is read as what was written. -/
theorem has_written (f : M.view.ty.Contents (Elt F)) (X : sh.Idx → Elt F e) :
    (M.view.loc (c : Thread nD τ) ↦[M.view.set]{fullShare} (M.view.write (Elt F) f X Finset.univ) : sProp 𝕄) ⊢ has c M fullShare X := by
  unfold has owns
  iintro H
  iexists (M.view.write (Elt F) f X Finset.univ)
  isplitr
  · ipureintro; exact View.read_write_univ f X
  · iexact H
end Shares

section Transfer
variable {sp sp' : Space} {sh : Shape} {e : EltTy} (c : Dev nD)

/-- A transfer within the device: the destination will be read as the source is. -/
theorem dmaHere {src : Memref sig .tc sp sh e} {dst : Memref sig .tc sp' sh e} {sm : DmaSem sig}
    {hsrc : src.view.WordExact} {hdst : dst.view.WordExact} {hsem : DmaTarget.Typed (nD := nD) (τ := τ) (p := .tc) sp (.dma sm) (.here dst)}
    {q : PosShare TreeShare} {X : sh.Idx → Elt F e} {N : ℕ} (hN : dst.view.amount (.dma sm) = N) (hN0 : 0 < N) (Q : PUnit → sProp 𝕄) :
    iprop(has c src q X ∗ free c dst ∗ idle c sm)
      ⊢ iprop((flying c sm N iprop(has c dst fullShare X ∗ has c src q X) -∗ Q ⟨⟩)
        -∗ run c (Prog.lift (.enqueueDma src (.here dst) (.dma sm) hsrc hdst hsem)) Q) := by
  unfold run
  unfold has owns free
  iintro ⟨⟨%fs, %hs, Hs⟩, ⟨%fd, Hd⟩, Hv⟩ Hk
  subst hs
  iapply (wp_dmaLocal EC 𝒱₀ (c : Thread nD τ) none (src := src) (dst := dst) (sm := .dma sm) () N hN hN0 (Finset.Subset.refl _)) $$ [Hs Hd Hv]
  · isplitl [Hs]; · iexact Hs
    isplitl [Hd]; · iexact Hd
    iexact Hv
  iintro Hf
  rw [wp_ret]
  imodintro
  iapply Hk
  iapply (Flight_mono EC (c : Thread nD τ) (D' := iprop(has c dst fullShare (src.view.read (Elt F) fs) ∗ has c src q (src.view.read (Elt F) fs))) ?_) $$ Hf
  iintro ⟨Hd, Hs⟩
  isplitl [Hd]
  · iapply (has_written c dst fd _); iexact Hd
  · iapply (owns_intro (c : Thread nD τ) src q fs); iexact Hs

/-- Waiting for a transfer takes what it delivers. -/
theorem waitHere {sh' : Shape} {e' : EltTy} {sem : DmaSem sig} {srcw : Memref sig .tc sp' sh' e'} {dstw : Memref sig .tc sp sh e}
    {hsrc : srcw.view.WordExact} {hdst : dstw.view.WordExact} {N : ℕ} (hN : dstw.view.dmaCredit = N) {D : sProp 𝕄}
    {O : CellTallies nD τ sig Unit} (Q : PUnit → sProp 𝕄) :
    iprop(flying c sem N D ∗ owing c O ∗ MayWait (c : Thread nD τ) (.dma sem) () O)
      ⊢ iprop((iprop(D ∗ idle c sem ∗ owing c O) -∗ Q ⟨⟩)
        -∗ run c (Prog.lift (.waitDma2 sem srcw dstw hsrc hdst)) Q) := by
  unfold run
  unfold owing
  iintro ⟨Hf, ⟨%W, HO⟩, Hmw⟩ Hk
  iapply (wp_waitLocalO EC 𝒱₀ (c : Thread nD τ) none () hN) $$ [Hf HO Hmw]
  · isplitl [Hf]; · iexact Hf
    isplitl [HO]; · iexact HO
    iexact Hmw
  iintro ⟨HD, Hv, HO⟩
  rw [wp_ret]
  imodintro
  iapply Hk
  isplitl [HD]; · iexact HD
  isplitl [Hv]; · iexact Hv
  iexists _; iexact HO

variable (m : (ℓ : Loc nD τ sig) → Buf (Elt F) ℓ)

/-- Sending to another device: the source comes back when the block has left, and the receiver's
    arrival round is paid with what lands. -/
theorem sendAway {c' : Dev nD} {src : Memref sig .tc sp sh e} {dst : Memref sig .tc sp' sh e} {sS : DmaSem sig} {p : Bool × Fin 16} {sem : DmaSem sig}
    (hp : csem (some p) = .dma sem)
    {hsc : dst.view.ref.isScScratch = false}
    {hsrc : src.view.WordExact} {hdst : dst.view.WordExact}
    {hsem : DmaTarget.Typed (nD := nD) (τ := τ) (p := .tc) sp (.dma sem) (.remote (Dev.tc c') dst (.dma sS) hsc)}
    {q : PosShare TreeShare} {X : sh.Idx → Elt F e} {κ : ℕ} {O₀ O : CellTallies nD τ sig Unit}
    (hN : dst.view.amount (.dma sem) = NP) (hO : O₀ = O + tallyAt (cell c' (some p)) () NP)
    (hpay : (has c' dst fullShare X : sProp 𝕄) ⊢ payOf m c' false (some (some p))) (Q : PUnit → sProp 𝕄) :
    iprop(has c src q X ∗ free c' dst ∗ idle c sS ∗ owing c O₀
        ∗ cellInv ER (Rd m) κ (cell c' (some p)) ∗ dutyTok ER (cell c' (some p)) 0 false ∗ reached ER (cell c' (some p)) 0)
      ⊢ iprop((iprop(flying c sS NP (has c src q X) ∗ owing c O) -∗ Q ⟨⟩)
        -∗ run c (Prog.lift (.enqueueDma src (.remote (Dev.tc c') dst (.dma sS) hsc) (.dma sem) hsrc hdst hsem)) Q) := by
  unfold run
  unfold owing
  iintro ⟨Hs, Hd, Hv, ⟨%W, HO⟩, Hinv, Htok, Hre⟩ Hk
  imod (flight_alloc EC NP_pos (has c src q X) (g := ((c : Thread nD τ), .dma sS))) $$ Hv with ⟨%γ, %δ, %κ', #Hfl, Hγ, Hδ⟩
  ihave Hc1 := (flight_creditUpdate EC (g := ((c : Thread nD τ), .dma sS)) (N := NP) (D := has c src q X) (γ := γ) (δ := δ) (ι := κ')) $$ [Hγ]
  · isplitr; · iexact Hfl
    iexact Hγ
  unfold has owns free
  icases Hs with ⟨%fs, %hs, Hs⟩
  icases Hd with ⟨%fd, Hd⟩
  subst hs
  have hcell : cell c' (some p) = ((c' : Thread nD τ), .dma sem) := congrArg _ hp
  rw [hcell] at hO
  have hd : false ∈ (Rd m).duties (cell c' (some p)) 0 := by rw [duties_cell]; exact Finset.mem_singleton_self _
  have hland := land_credit ER (Rd m) (κ := κ) hd
    (X := (dst.view.loc (c' : Thread nD τ) ↦[dst.view.set]{fullShare} (dst.view.write (Elt F) fd (src.view.read (Elt F) fs) Finset.univ) : sProp 𝕄))
    (((has_written c' dst fd _).trans hpay).trans (Entails.of_eq (payload_cell m c' (some p) 0 false).symm))
  rw [amount_cell, show amountOf (some (some p)) = NP from rfl] at hland
  ihave Hc2 := hland $$ [Hinv Htok Hre]
  · isplitl [Hinv]; · iexact Hinv
    isplitl [Htok]; · iexact Htok
    iexact Hre
  rw [hcell]
  iapply (wp_enqueueDma_remote_pointsTo 𝒱₀ (c : Thread nD τ) none Set.univ (src := src) (c' := (c' : Thread nD τ)) (dst := dst) (sS := .dma sS) (sem := .dma sem) () () O NP hN hO) $$ [Hs Hd HO] [Hc1] [Hc2]
  · isplitl [Hs]; · iexact Hs
    isplitl [Hd]; · iexact Hd
    iexact HO
  · iapply (creditUpdate_anti (owns_intro (c : Thread nD τ) src q fs)); iexact Hc1
  · iexact Hc2
  iintro ⟨Hcr, HO⟩
  rw [wp_ret]
  imodintro
  iapply Hk
  isplitr [HO]
  · iapply (flight_intro EC (c : Thread nD τ) (γ := γ) (δ := δ) (κ := κ'))
    isplitr; · iexact Hfl
    isplitl [Hδ]; · iexact Hδ
    iexact Hcr
  · iexists W; iexact HO

/-- Waiting for an arrival takes what arrived and closes the round. -/
theorem takeArrival {sh' : Shape} {e' : EltTy} {sem : DmaSem sig} {p : Bool × Fin 16} (hp : csem (some p) = .dma sem)
    (srcw : Memref sig .tc sp' sh' e') (dstw : Memref sig .tc sp sh e)
    (hsrc : srcw.view.WordExact) (hdst : dstw.view.WordExact) (hN : dstw.view.dmaCredit = NP) {κ : ℕ}
    {O : CellTallies nD τ sig Unit} (Q : PUnit → sProp 𝕄) :
    iprop(cellInv ER (Rd m) κ (cell c (some p)) ∗ cred (tallyAt (cell c (some p)) () NP) ∗ owing c O
        ∗ MayWait (c : Thread nD τ) (.dma sem) () O ∗ atPos ER (cell c (some p)) 0 ∅ 0)
      ⊢ iprop((iprop(payOf m c false (some (some p)) ∗ idle c sem ∗ owing c O) -∗ Q ⟨⟩)
        -∗ run c (Prog.lift (.waitDma2 sem srcw dstw hsrc hdst)) Q) := by
  unfold run
  unfold owing
  iintro ⟨#Hinv, Hcr, ⟨%W, HO⟩, Hmw, Hat⟩ Hk
  have hx := expect_got (F := F) m c p
  have hall := all_got (F := F) m c p
  rw [show cell c (some p) = ((c : Thread nD τ), .dma sem) from congrArg _ hp] at hx hall ⊢
  rw [← hN] at hx ⊢
  iapply (Rounds.wp_wait_rest_token 𝒱₀ ER (Rd m) (c : Thread nD τ) none (κ := κ)
      (wpE_waitDma2_eq 𝒱₀ (c : Thread nD τ) none Set.univ) (Set.mem_univ _) () (O := O) (W := W) (R := 0) (m := 0) (T := ∅)
      (by rw [hx]; exact Nat.zero_add _)) $$ [Hcr HO Hmw Hat]
  · isplitr; · iexact Hinv
    isplitl [Hcr]; · iexact Hcr
    isplitl [HO]; · iexact HO
    isplitl [Hmw]; · iexact Hmw
    iexact Hat
  rw [hall]
  iintro ⟨HO, Hat, -, Hpay⟩
  rw [wp_ret]
  imod (Rounds.cell_close ER (Rd m) (Set.mem_univ κ) (fun h => h) (R := 0 + 1) (duties_later m _)) $$ [Hat] with Hv
  · isplitr; · iexact Hinv
    iexact Hat
  imodintro
  iapply Hk
  isplitl [Hpay]; · iexact Hpay
  isplitl [Hv]; · iexact Hv
  iexists _; iexact HO

end Transfer

section Slot
variable {cs : CoreSpace} {s s' : Shape} {e : EltTy} (c : Dev nD) (M : Memref sig .tc cs s e) (r : Rect s) (hr : ∀ a, r.stride a = 1) (hq : r.shape.Squeezes s')

/-- The elements of a squeezed slice are the slice's. -/
theorem slot_set : ((M.slice r hr).squeeze s' hq).view.set = (M.access r).set :=
  View.set_reshape _ _

/-- A load of a slot reads, cast to the slot's shape, what the slot is read as. -/
theorem loadSlot {hl : M.view.LoadsAt r.toLoadRect} (hc : r.shape.ShapeCasts s') {q : PosShare TreeShare} {X : s'.Idx → Elt F e}
    (Q : (r.shape.Idx → Elt F e) → sProp 𝕄) :
    (has c ((M.slice r hr).squeeze s' hq) q X : sProp 𝕄)
      ⊢ iprop((∀ v, ⌜shapeCast s' v hc = X⌝ -∗ has c ((M.slice r hr).squeeze s' hq) q X -∗ Q v)
        -∗ run c (Prog.lift (.load M r.toLoadRect hl)) Q) := by
  unfold run
  unfold has owns
  iintro ⟨%f, %hf, H⟩ Hk
  subst hf
  rw [slot_set M r hr hq]
  iapply (wp_load_rect 𝒱₀ (c : Thread nD τ) none Set.univ (m := M) (r := r) (Finset.Subset.refl _)) $$ H
  iintro H
  rw [wp_ret]
  imodintro
  iapply Hk $$ %_ [] [H]
  · ipureintro; rfl
  · iexists f
    isplitr; · ipureintro; rfl
    iexact H

/-- A store into a slot: the slot is read as what was stored, cast to its shape. -/
theorem storeSlot (X : s'.Idx → Elt F e) {w : r.shape.Idx → Elt F e} (hc : s'.ShapeCasts r.shape) (hw : w = shapeCast r.shape X hc) {hx : (M.access r).Stores Finset.univ} {hm : (Finset.univ : Finset r.shape.Idx) = Finset.univ ∨ ∀ a, r.stride a = 1}
    (Q : PUnit → sProp 𝕄) :
    (free c ((M.slice r hr).squeeze s' hq) : sProp 𝕄)
      ⊢ iprop((has c ((M.slice r hr).squeeze s' hq) fullShare X -∗ Q ⟨⟩)
        -∗ run c (Prog.lift (.store M r w Finset.univ hx hm)) Q) := by
  subst hw
  unfold run
  unfold has owns free
  iintro ⟨%f, H⟩ Hk
  rw [slot_set M r hr hq]
  iapply (wp_store 𝒱₀ (c : Thread nD τ) none Set.univ (m := M) (r := r) (Mk := Finset.univ) (S := (M.access r).set) (Finset.Subset.refl _)) $$ H
  iintro H
  rw [wp_ret]
  imodintro
  iapply Hk
  iexists _
  isplitr
  rotate_left
  · iexact H
  · ipureintro
    show shapeCast s' ((M.access r).read (Elt F) ((M.access r).write (Elt F) f (shapeCast r.shape X hc) Finset.univ)) hc.symm = X
    rw [View.read_write_univ]
    exact shapeCast_shapeCast X _ _

/-- A load that is not used leaves the slot as it was. -/
theorem loadFree {hl : M.view.LoadsAt r.toLoadRect} (Q : (r.shape.Idx → Elt F e) → sProp 𝕄) :
    (free c ((M.slice r hr).squeeze s' hq) : sProp 𝕄)
      ⊢ iprop((∀ v, free c ((M.slice r hr).squeeze s' hq) -∗ Q v)
        -∗ run c (Prog.lift (.load M r.toLoadRect hl)) Q) := by
  unfold run
  unfold free
  iintro ⟨%f, H⟩ Hk
  rw [slot_set M r hr hq]
  iapply (wp_load_rect 𝒱₀ (c : Thread nD τ) none Set.univ (m := M) (r := r) (Finset.Subset.refl _)) $$ H
  iintro H
  rw [wp_ret]
  imodintro
  iapply Hk $$ %_
  iexists f
  iexact H

end Slot

end Cert.TwoPhase

end
-- ==== Proof.State.lean ====
module

public import proofs.«01_k».proof.Proof.Rules

/-! What a device holds between two steps. -/

@[expose] public section

noncomputable section

namespace Cert.TwoPhase

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Cert.KernelIdeal Cert.KernelIdeal.Gen

variable {F : FTy → Type} [FloatOps F]

local notation "𝕄" => MT nD τ sig Unit (Elt F) ℕ UU ℕ

/-! ## Sixteen things, some of them done -/

/-- The things of the steps from `n` on. -/
def rest (n : ℕ) (Φ : Fin 16 → sProp 𝕄) : sProp 𝕄 := bigSep (Finset.univ.filter fun i : Fin 16 => n ≤ i.val) Φ
/-- The things of the steps before `n`. -/
def done (n : ℕ) (Φ : Fin 16 → sProp 𝕄) : sProp 𝕄 := bigSep (Finset.univ.filter fun i : Fin 16 => i.val < n) Φ

/-- The steps from `i` on are `i` and the steps after it. -/
theorem from_insert (i : Fin 16) :
    (Finset.univ.filter fun k : Fin 16 => i.val ≤ k.val) = insert i (Finset.univ.filter fun k : Fin 16 => i.val + 1 ≤ k.val) := by
  revert i; decide
theorem upto_insert (i : Fin 16) :
    (Finset.univ.filter fun k : Fin 16 => k.val < i.val + 1) = insert i (Finset.univ.filter fun k : Fin 16 => k.val < i.val) := by
  revert i; decide

omit [FloatOps F] in
/-- The next thing is taken. -/
theorem rest_take (i : Fin 16) (Φ : Fin 16 → sProp 𝕄) : rest i.val Φ = iprop(Φ i ∗ rest (i.val + 1) Φ) := by
  unfold rest
  rw [from_insert i]
  exact bigSep_insert fun h => by have := (Finset.mem_filter.mp h).2; omega
omit [FloatOps F] in
theorem rest_split (i : Fin 16) (Φ : Fin 16 → sProp 𝕄) : rest i.val Φ ⊢ iprop(Φ i ∗ rest (i.val + 1) Φ) :=
  Entails.of_eq (rest_take i Φ)
omit [FloatOps F] in
/-- One more thing is done. -/
theorem done_push (i : Fin 16) (Φ : Fin 16 → sProp 𝕄) : done (i.val + 1) Φ = iprop(Φ i ∗ done i.val Φ) := by
  unfold done
  rw [upto_insert i]
  exact bigSep_insert fun h => by have := (Finset.mem_filter.mp h).2; omega
omit [FloatOps F] in
theorem rest_zero (Φ : Fin 16 → sProp 𝕄) : rest 0 Φ = bigSep Finset.univ Φ := by
  unfold rest; rw [Finset.filter_true_of_mem fun i _ => Nat.zero_le _]
omit [FloatOps F] in
theorem done_all (Φ : Fin 16 → sProp 𝕄) : done 16 Φ = bigSep Finset.univ Φ := by
  unfold done; rw [Finset.filter_true_of_mem fun i _ => i.isLt]
omit [FloatOps F] in
theorem done_zero (Φ : Fin 16 → sProp 𝕄) : done 0 Φ = iprop(emp) := by
  unfold done; rw [Finset.filter_false_of_mem fun i _ => Nat.not_lt_zero _]; rfl

/-! ## What is owed -/

/-- The arrivals device `c` still owes `px c`, from step `n` on. -/
def owedX (c : Dev nD) (n : ℕ) : CellTallies nD τ sig Unit :=
  ∑ k ∈ Finset.univ.filter fun k : Fin 16 => n ≤ k.val, tallyAt (cell (px c) (some (false, k))) () NP
/-- The arrivals device `c` still owes `py c`, from step `n` on. -/
def owedY (c : Dev nD) (n : ℕ) : CellTallies nD τ sig Unit :=
  ∑ k ∈ Finset.univ.filter fun k : Fin 16 => n ≤ k.val, tallyAt (cell (py c) (some (true, k))) () NP

theorem owedX_take (c : Dev nD) (i : Fin 16) : owedX c i.val = owedX c (i.val + 1) + tallyAt (cell (px c) (some (false, i))) () NP := by
  unfold owedX
  rw [from_insert i, Finset.sum_insert (fun h => by have := (Finset.mem_filter.mp h).2; omega), add_comm]
theorem owedY_take (c : Dev nD) (i : Fin 16) : owedY c i.val = owedY c (i.val + 1) + tallyAt (cell (py c) (some (true, i))) () NP := by
  unfold owedY
  rw [from_insert i, Finset.sum_insert (fun h => by have := (Finset.mem_filter.mp h).2; omega), add_comm]
theorem owedX_end (c : Dev nD) : owedX c 16 = 0 := by
  unfold owedX; rw [Finset.filter_false_of_mem fun i _ => Nat.not_le.mpr i.isLt]; rfl
theorem owedY_end (c : Dev nD) : owedY c 16 = 0 := by
  unfold owedY; rw [Finset.filter_false_of_mem fun i _ => Nat.not_le.mpr i.isLt]; rfl

/-- A tally of a sum of cells is one of the cells'. -/
theorem sum_tally_pos {S : Finset (Fin 16)} {f : Fin 16 → GSem nD τ sig} {N : ℕ} {g : GSem nD τ sig} {u : Unit}
    (h : 0 < (∑ k ∈ S, tallyAt (Ix := Unit) (f k) () N) g u) : ∃ k ∈ S, g = f k := by
  by_contra hn
  have hz : ∀ T : Finset (Fin 16), T ⊆ S → (∑ k ∈ T, tallyAt (Ix := Unit) (f k) () N) g u = 0 := by
    intro T
    induction T using Finset.induction_on with
    | empty => intro _; rfl
    | insert k T hk ih =>
      intro hT
      rw [Finset.sum_insert hk, Pi.add_apply, Finsupp.add_apply, ih fun x hx => hT (Finset.mem_insert_of_mem hx), tallyAt_apply,
        if_neg fun he => hn ⟨k, hT (Finset.mem_insert_self _ _), he.1⟩]
  rw [hz S (Finset.Subset.refl _)] at h
  exact Nat.lt_irrefl 0 h

theorem owed_pos {c : Dev nD} {n r : ℕ} {g : GSem nD τ sig} {u : Unit} (h : 0 < (owedX c n + owedY c r) g u) :
    (∃ k : Fin 16, n ≤ k.val ∧ g = cell (px c) (some (false, k))) ∨ ∃ k : Fin 16, g = cell (py c) (some (true, k)) := by
  rw [Pi.add_apply, Finsupp.add_apply] at h
  rcases Nat.eq_zero_or_pos (owedX c n g u) with h0 | h0
  · rw [h0, Nat.zero_add] at h
    obtain ⟨k, -, hg⟩ := sum_tally_pos h
    exact Or.inr ⟨k, hg⟩
  · obtain ⟨k, hk, hg⟩ := sum_tally_pos h0
    exact Or.inl ⟨k, (Finset.mem_filter.mp hk).2, hg⟩

/-- Only a TensorCore's semaphores are waited for. -/
def L (g : GSem nD τ sig) : Finset Unit := if g.1.2 = .tc then {()} else ∅
/-- The level of a semaphore: a device's own, the barrier, the arrivals of products in order, the arrivals of sums. -/
def levelOf : Option Tag → ℕ
  | none => 0
  | some none => 1
  | some (some (false, i)) => 2 + i.val
  | some (some (true, _)) => 100
/-- The level of a cell. -/
def lv (g : GSem nD τ sig) (_ : Unit) : ℕ := levelOf (tagOf g.2)

theorem L_tc (c : Dev nD) (sm : SemLoc sig) : L ((c : Thread nD τ), sm) = {()} := if_pos rfl
theorem lv_cell (c : Dev nD) (t : Tag) (u : Unit) : lv (cell c t) u = levelOf (some t) := congrArg levelOf (tagOf_csem t)

omit [FloatOps F] in
/-- A wait below everything owed. -/
theorem mayWait_of (c : Dev nD) (sm : SemLoc sig) (n r : ℕ) (h : levelOf (tagOf sm) < 2 + n) (h' : levelOf (tagOf sm) < 100) :
    (levAts L lv : sProp 𝕄) ⊢ MayWait (c : Thread nD τ) sm () (owedX c n + owedY c r) := by
  refine MayOwe.of_cut (L := L) (lev := lv) (levelOf (tagOf sm)) ?_ ?_ ?_ ?_
  · intro p hp
    rw [Finset.mem_singleton.mp hp, L_tc]; exact Finset.mem_singleton_self _
  · intro g u hg
    rcases owed_pos hg with ⟨k, -, rfl⟩ | ⟨k, rfl⟩ <;> (rw [L_tc]; exact Finset.mem_singleton_self _)
  · intro p hp
    rw [Finset.mem_singleton.mp hp]; exact le_rfl
  · intro g u hg
    rcases owed_pos hg with ⟨k, hk, rfl⟩ | ⟨k, rfl⟩
    · rw [lv_cell]; exact lt_of_lt_of_le h (Nat.add_le_add_left hk 2)
    · rw [lv_cell]; exact h'

theorem tag_aSem (s : Fin 2) : tagOf (.dma (aSem s)) = none := by revert s; decide
theorem tag_oSem (s : Fin 2) : tagOf (.dma (oSem s)) = none := by revert s; decide
theorem tag_sxSem (s : Fin 2) : tagOf (.dma (sxSem s)) = none := by revert s; decide
theorem tag_sySem (s : Fin 2) : tagOf (.dma (sySem s)) = none := by revert s; decide
theorem tag_tSem : tagOf (.dma tSem) = none := by decide

omit [FloatOps F] in
/-- A device may always wait for a transfer of its own. -/
theorem mayWait_own (c : Dev nD) {q : DmaSem sig} (hq : tagOf (.dma q) = none) (n r : ℕ) :
    (levAts L lv : sProp 𝕄) ⊢ MayWait (c : Thread nD τ) (.dma q) () (owedX c n + owedY c r) :=
  mayWait_of c (.dma q) n r (by rw [hq]; exact Nat.lt_of_lt_of_le Nat.two_pos (Nat.le_add_right 2 n)) (by rw [hq]; decide)

omit [FloatOps F] in
/-- It may wait for product `j` to arrive when it has sent its own. -/
theorem mayWait_rx (c : Dev nD) (j : Fin 16) (n r : ℕ) (h : j.val < n) :
    (levAts L lv : sProp 𝕄) ⊢ MayWait (c : Thread nD τ) (.dma (rxSem j)) () (owedX c n + owedY c r) := by
  have ht : tagOf (.dma (rxSem j)) = some (some (false, j)) := tagOf_csem (some (false, j))
  refine mayWait_of c (.dma (rxSem j)) n r ?_ ?_ <;> rw [ht]
  · exact Nat.add_lt_add_left h 2
  · have := j.isLt; show 2 + j.val < 100; omega

omit [FloatOps F] in
/-- It may wait at the barrier owing every arrival. -/
theorem mayWait_bar (c : Dev nD) :
    (levAts L lv : sProp 𝕄) ⊢ MayWait (c : Thread nD τ) (.reg barS) () (owedX c 0 + owedY c 0) :=
  mayWait_of c (.reg barS) 0 0 (by decide) (by decide)

variable (m : (ℓ : Loc nD τ sig) → Buf (Elt F) ℓ)

/-! ## What every device knows -/

/-- The levels, every cell's invariant, and that every cell is at its round. -/
def know (K : Dev nD × Tag → ℕ) : sProp 𝕄 :=
  iprop(levAts L lv
    ∗ (bigSep Finset.univ fun p : Dev nD × Tag => cellInv ER (Rd m) (K p) (cell p.1 p.2))
    ∗ bigSep Finset.univ fun p : Dev nD × Tag => reached ER (cell p.1 p.2) 0)

instance know_persistent (K : Dev nD × Tag → ℕ) : BI.Persistent (know m K) := by unfold know; infer_instance

theorem know_lev (K : Dev nD × Tag → ℕ) : know m K ⊢ levAts L lv := by
  unfold know; iintro ⟨H, -, -⟩; iexact H
theorem know_inv (K : Dev nD × Tag → ℕ) (c : Dev nD) (t : Tag) : know m K ⊢ cellInv ER (Rd m) (K (c, t)) (cell c t) := by
  have h : (bigSep Finset.univ fun p : Dev nD × Tag => cellInv ER (Rd m) (K p) (cell p.1 p.2)) ⊢ cellInv ER (Rd m) (K (c, t)) (cell c t) :=
    bigSep_elim (Finset.mem_univ (c, t))
  unfold know; iintro ⟨-, H, -⟩
  iapply h $$ H
theorem know_at (K : Dev nD × Tag → ℕ) (c : Dev nD) (t : Tag) : know m K ⊢ reached ER (cell c t) 0 := by
  have h : (bigSep Finset.univ fun p : Dev nD × Tag => (reached ER (cell p.1 p.2) 0 : sProp 𝕄)) ⊢ reached ER (cell c t) 0 :=
    bigSep_elim (Finset.mem_univ (c, t))
  unfold know; iintro ⟨-, -, H⟩
  iapply h $$ H

/-! ## The slots -/

/-- The two slots of step `n` in turn. -/
theorem par_add_two (n : ℕ) : par (stepNo (n + 2)) = par (stepNo n) := by
  refine Fin.ext ?_
  show (n + 2) % 16 % 2 = n % 16 % 2
  omega
theorem stepNo_val (i : Fin 16) : stepNo i.val = i := Fin.ext (Nat.mod_eq_of_lt i.isLt)
theorem stepNo_lt {n : ℕ} (h : n < 16) : (stepNo n).val = n := Nat.mod_eq_of_lt h

/-- An empty slot of the `A` scratch. -/
def freeA (c : Dev nD) (s : Fin 2) : sProp 𝕄 := iprop(free (F := F) c (aSlot s) ∗ idle c (aSem s))
/-- An empty slot of the products. -/
def freeP (c : Dev nD) (s : Fin 2) : sProp 𝕄 := iprop(free (F := F) c (pSlot s) ∗ idle c (sxSem s))
/-- The slot of product `k`, half of it lent to its transfer. -/
def busyP (c : Dev nD) (k : Fin 16) : sProp 𝕄 :=
  iprop(has c (pSlot (par k)) fullShare.right (prodAt m c k)
    ∗ flying c (sxSem (par k)) NP (has c (pSlot (par k)) fullShare.left (prodAt m c k)))
/-- An empty slot of the sums. -/
def freeY (c : Dev nD) (s : Fin 2) : sProp 𝕄 := iprop(free (F := F) c (ySlot s) ∗ idle c (sySem s) ∗ idle c (oSem s))
/-- The slot of sum `k`, lent to its two transfers. -/
def busyY (c : Dev nD) (k : Fin 16) : sProp 𝕄 :=
  iprop(flying c (sySem (par k)) NP (has c (ySlot (par k)) fullShare.left (sumAt m c k))
    ∗ flying c (oSem (par k)) NP iprop(has c (oWin c k) fullShare (sumAt m c k) ∗ has c (ySlot (par k)) fullShare.right (sumAt m c k)))
/-- An empty scratch for what arrived. -/
def freeT (c : Dev nD) : sProp 𝕄 := iprop(free (F := F) c (Memref.whole cc0_scratch2) ∗ idle c tSem)

/-- The slot product `n` will go to. -/
def slotP (c : Dev nD) (n : ℕ) : sProp 𝕄 := if n < 2 then freeP c (par (stepNo n)) else busyP m c (stepNo (n - 2))
/-- The slot sum `n` will go to. -/
def slotY (c : Dev nD) (n : ℕ) : sProp 𝕄 := if n < 2 then freeY c (par (stepNo n)) else busyY m c (stepNo (n - 2))

theorem slotP_busy (c : Dev nD) (n : ℕ) : slotP m c (n + 2) = busyP m c (stepNo n) := if_neg (Nat.not_lt.mpr (Nat.le_add_left 2 n))
theorem slotY_busy (c : Dev nD) (n : ℕ) : slotY m c (n + 2) = busyY m c (stepNo n) := if_neg (Nat.not_lt.mpr (Nat.le_add_left 2 n))

/-- The `A` scratch when the rows of step `n` are on their way. -/
def loads (c : Dev nD) (n : ℕ) : sProp 𝕄 :=
  if n < 16 then
    iprop(flying c (aSem (par (stepNo n))) NA
        iprop(has c (aSlot (par (stepNo n))) fullShare (rowsA m c (stepNo n)) ∗ has c (aWin c (stepNo n)) fullShare.right (rowsA m c (stepNo n)))
      ∗ freeA c (par (stepNo (n + 1))))
  else iprop(freeA c (par (stepNo n)) ∗ freeA c (par (stepNo (n + 1))))

/-- What the products from `n` on need. -/
def needX (c : Dev nD) (n : ℕ) : sProp 𝕄 :=
  iprop(loads m c n
    ∗ rest (n + 1) (fun i => has c (aWin c i) fullShare.right (rowsA m c i))
    ∗ rest n (fun i => free (F := F) (px c) (rWin i))
    ∗ rest n (fun i => dutyTok ER (cell (px c) (some (false, i))) 0 false))

/-- What the sums from `n` on need, and what those before left. -/
def needY (c : Dev nD) (n : ℕ) : sProp 𝕄 :=
  iprop(freeT c
    ∗ rest n (fun i => free (F := F) c (oWin c i))
    ∗ rest n (fun i => free (F := F) (py c) (oWin c i))
    ∗ rest n (fun i => dutyTok ER (cell (py c) (some (true, i))) 0 false)
    ∗ rest n (fun i => cred (tallyAt (cell c (some (false, i))) () NP))
    ∗ rest n (fun i => atPos ER (cell c (some (false, i))) 0 ∅ 0)
    ∗ done n (fun i => idle c (rxSem i))
    ∗ done (n - 2) (fun i => has c (oWin c i) fullShare (sumAt m c i)))

/-- What the arrivals of sums need. -/
def needIn (c : Dev nD) (n : ℕ) : sProp 𝕄 :=
  iprop(rest n (fun i => cred (tallyAt (cell c (some (true, i))) () NP))
    ∗ rest n (fun i => atPos ER (cell c (some (true, i))) 0 ∅ 0)
    ∗ done n (fun i => idle c (rySem i))
    ∗ done n (fun i => gotY m c i))

/-- What a device holds before step `n`. -/
def between (c : Dev nD) (n : ℕ) : sProp 𝕄 :=
  iprop(needX m c n ∗ slotP m c n ∗ slotP m c (n + 1)
    ∗ needY m c (n - 1) ∗ slotY m c (n - 1) ∗ slotY m c (n - 1 + 1)
    ∗ has c (Memref.whole cc0_stg0_0) fullShare (bStg m c)
    ∗ owing c (owedX c n + owedY c (n - 1)))

/-- What a device holds at the end. -/
def after (c : Dev nD) : sProp 𝕄 :=
  iprop(freeA (F := F) c 0 ∗ freeA (F := F) c 1 ∗ freeP (F := F) c 0 ∗ freeP (F := F) c 1 ∗ freeY (F := F) c 0 ∗ freeY (F := F) c 1 ∗ freeT (F := F) c
    ∗ (bigSep Finset.univ fun i => idle c (rxSem i)) ∗ (bigSep Finset.univ fun i => idle c (rySem i))
    ∗ (bigSep Finset.univ fun i => has c (oWin c i) fullShare (sumAt m c i))
    ∗ (bigSep Finset.univ fun i => gotY m c i)
    ∗ has c (Memref.whole cc0_stg0_0) fullShare (bStg m c)
    ∗ owing c 0)

end Cert.TwoPhase

end
-- ==== Proof.Phases.lean ====
module

public import proofs.«01_k».proof.Proof.State

/-! One product, one sum, one step. -/

@[expose] public section

noncomputable section

namespace Cert.TwoPhase

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Cert.KernelIdeal Cert.KernelIdeal.Gen

variable {F : FTy → Type} [FloatOps F]

local notation "𝕄" => MT nD τ sig Unit (Elt F) ℕ UU ℕ

/-! ## Credits -/

theorem credit_a (s : Fin 2) : (aSlot s).view.dmaCredit = NA := rfl
theorem credit_p (s : Fin 2) : (pSlot s).view.dmaCredit = NP := rfl
theorem credit_y (s : Fin 2) : (ySlot s).view.dmaCredit = NP := rfl
theorem credit_t : (Memref.whole cc0_scratch2).view.dmaCredit = NP := rfl
theorem credit_r (i : Fin 16) : (rWin i).view.dmaCredit = NP := rfl
theorem credit_o (d : Dev nD) (i : Fin 16) : (oWin d i).view.dmaCredit = NP := rfl

theorem word_a (d : Dev nD) (i : Fin 16) : (aWin d i).view.WordExact := View.wordExact_bits rfl
theorem word_as (s : Fin 2) : (aSlot s).view.WordExact := (View.wordExact_bits rfl).reshape _ _
theorem word_p (s : Fin 2) : (pSlot s).view.WordExact := (View.wordExact_bits rfl).reshape _ _
theorem word_y (s : Fin 2) : (ySlot s).view.WordExact := (View.wordExact_bits rfl).reshape _ _
theorem word_r (i : Fin 16) : (rWin i).view.WordExact := View.wordExact_bits rfl
theorem word_o (d : Dev nD) (i : Fin 16) : (oWin d i).view.WordExact := View.wordExact_bits rfl
theorem word_t : (Memref.whole cc0_scratch2).view.WordExact := (Memref.isWhole_whole _).wordExact

variable (m : (ℓ : Loc nD τ sig) → Buf (Elt F) ℓ) (K : Dev nD × Tag → ℕ)

/-! ## The two computations -/

omit [FloatOps F] in
/-- A predicate at a value is the predicate at what it equals. -/
theorem at_eq {α : Type} (Q : α → sProp 𝕄) {v w : α} (h : v = w) : Q w ⊢ Q v := by rw [h]

/-- Loading the whole of `B`. -/
theorem loadStg (c : Dev nD) (w : FVec F S2048x4096 .f32) {hl} (Q : Vec F S2048x4096 .f32 → sProp 𝕄) :
    (has c (Memref.whole cc0_stg0_0) fullShare w : sProp 𝕄)
      ⊢ iprop((has c (Memref.whole cc0_stg0_0) fullShare w -∗ Q w)
        -∗ run c (Prog.lift (.load (Memref.whole cc0_stg0_0) (Rect.unit (s := S2048x4096) ![0, 0] S2048x4096.size inb_S2048x4096_S2048x4096_0_0).toLoadRect hl)) Q) := by
  unfold run has
  rw [owns_whole]
  iintro Hw Hk
  iapply (wp_load 𝒱₀ (c : Thread nD τ) none Set.univ (m := Memref.whole cc0_stg0_0) (Finset.subset_univ _)) $$ Hw
  iintro Hw
  rw [wp_ret]
  imodintro
  iapply (at_eq Q (Memref.readAt_unit_zero (Elt F) cc0_stg0_0 (off := ![0, 0]) (by decide) _ w))
  iapply Hk $$ Hw

/-- Loading the whole of what arrived. -/
theorem loadGot (c : Dev nD) (w : FVec F S128x4096 .f32) {hl} (Q : Vec F S128x4096 .f32 → sProp 𝕄) :
    (has c (Memref.whole cc0_scratch2) fullShare w : sProp 𝕄)
      ⊢ iprop((has c (Memref.whole cc0_scratch2) fullShare w -∗ Q w)
        -∗ run c (Prog.lift (.load (Memref.whole cc0_scratch2) (Rect.unit (s := S128x4096) ![0, 0] S128x4096.size inb_S128x4096_S128x4096_0_0).toLoadRect hl)) Q) := by
  unfold run has
  rw [owns_whole]
  iintro Hw Hk
  iapply (wp_load 𝒱₀ (c : Thread nD τ) none Set.univ (m := Memref.whole cc0_scratch2) (Finset.subset_univ _)) $$ Hw
  iintro Hw
  rw [wp_ret]
  imodintro
  iapply (at_eq Q (Memref.readAt_unit_zero (Elt F) cc0_scratch2 (off := ![0, 0]) (by decide) _ w))
  iapply Hk $$ Hw

/-- The product of the rows in slot `s` and `B`. -/
theorem multiply_spec (c : Dev nD) (s : Fin 2) (a : FVec F S128x2048 .f32) (w : FVec F S2048x4096 .f32) (Q : PUnit → sProp 𝕄) :
    iprop(has c (aSlot s) fullShare a ∗ has c (Memref.whole cc0_stg0_0) fullShare w ∗ free c (pSlot s))
      ⊢ iprop((iprop(has c (aSlot s) fullShare a ∗ has c (Memref.whole cc0_stg0_0) fullShare w ∗ has c (pSlot s) fullShare (mulBlock a w)) -∗ Q ⟨⟩)
        -∗ run c (multiply s) Q) := by
  unfold multiply aSlot pSlot
  iintro ⟨Ha, Hw, Hp⟩ Hk
  rw [run_bind]
  iapply (loadSlot c (Memref.whole cc0_scratch0) (rectA s) (fun _ => rfl) squeezes_S1x128x2048_S128x2048 shapeCasts_S1x128x2048_S128x2048) $$ Ha
  iintro %v %hv Ha
  rw [run_bind]
  iapply (loadStg c w) $$ Hw
  iintro Hw
  rw [run_bind]
  iapply (loadFree c (Memref.whole cc0_scratch1) (rectP s) (fun _ => rfl) squeezes_S1x128x4096_S128x4096) $$ Hp
  iintro %_ Hp
  iapply (storeSlot c (Memref.whole cc0_scratch1) (rectP s) (fun _ => rfl) squeezes_S1x128x4096_S128x4096 (mulBlock a w) shapeCasts_S128x4096_S1x128x4096 (pay1_of v w a hv)) $$ Hp
  iintro Hp
  iapply Hk
  isplitl [Ha]; · iexact Ha
  isplitl [Hw]; · iexact Hw
  iexact Hp

/-- The sum of the product in slot `s` and what arrived. -/
theorem addUp_spec (c : Dev nD) (s : Fin 2) (p t : FVec F S128x4096 .f32) (Q : PUnit → sProp 𝕄) :
    iprop(has c (pSlot s) fullShare.right p ∗ has c (Memref.whole cc0_scratch2) fullShare t ∗ free c (ySlot s))
      ⊢ iprop((iprop(has c (pSlot s) fullShare.right p ∗ has c (Memref.whole cc0_scratch2) fullShare t ∗ has c (ySlot s) fullShare (addf p t : FVec F S128x4096 .f32)) -∗ Q ⟨⟩)
        -∗ run c (addUp s) Q) := by
  unfold addUp pSlot ySlot
  iintro ⟨Hp, Ht, Hy⟩ Hk
  rw [run_bind]
  iapply (loadSlot c (Memref.whole cc0_scratch1) (rectP s) (fun _ => rfl) squeezes_S1x128x4096_S128x4096 shapeCasts_S1x128x4096_S128x4096) $$ Hp
  iintro %v %hv Hp
  rw [run_bind]
  iapply (loadGot c t) $$ Ht
  iintro Ht
  rw [run_bind]
  iapply (loadFree c (Memref.whole cc0_scratch3) (rectP s) (fun _ => rfl) squeezes_S1x128x4096_S128x4096) $$ Hy
  iintro %_ Hy
  iapply (storeSlot c (Memref.whole cc0_scratch3) (rectP s) (fun _ => rfl) squeezes_S1x128x4096_S128x4096 (addf p t : FVec F S128x4096 .f32) shapeCasts_S128x4096_S1x128x4096 (pay3_of v t p hv)) $$ Hy
  iintro Hy
  iapply Hk
  isplitl [Hp]; · iexact Hp
  isplitl [Ht]; · iexact Ht
  iexact Hy

/-! ## Waiting for a device's own transfers -/

/-- Waiting for a transfer of the device's own. -/
theorem waitOwn {sp sp' : Space} {sh sh' : Shape} {e e' : EltTy} (c : Dev nD) {sem : DmaSem sig} (hs : tagOf (.dma sem) = none)
    (srcw : Memref sig .tc sp' sh' e') (dstw : Memref sig .tc sp sh e) (hsrc : srcw.view.WordExact) (hdst : dstw.view.WordExact)
    {N : ℕ} (hN : dstw.view.dmaCredit = N) {D : sProp 𝕄} (n r : ℕ) (Q : PUnit → sProp 𝕄) :
    iprop(know m K ∗ flying c sem N D ∗ owing c (owedX c n + owedY c r))
      ⊢ iprop((iprop(D ∗ idle c sem ∗ owing c (owedX c n + owedY c r)) -∗ Q ⟨⟩)
        -∗ run c (Prog.lift (.waitDma2 sem srcw dstw hsrc hdst)) Q) := by
  iintro ⟨#Hkn, Hf, HO⟩ Hk
  ihave Hlev := (know_lev m K) $$ Hkn
  ihave Hmw := (mayWait_own c hs n r) $$ Hlev
  iapply (waitHere c hN (O := owedX c n + owedY c r)) $$ [Hf HO Hmw] Hk
  isplitl [Hf]; · iexact Hf
  isplitl [HO]; · iexact HO
  iexact Hmw

/-- The slot of product `k` is empty once the product has left. -/
theorem waitSx_spec (c : Dev nD) (k : Fin 16) (n r : ℕ) (Q : PUnit → sProp 𝕄) :
    iprop(know m K ∗ busyP m c k ∗ owing c (owedX c n + owedY c r))
      ⊢ iprop((iprop(freeP c (par k) ∗ owing c (owedX c n + owedY c r)) -∗ Q ⟨⟩) -∗ run c (waitSx k) Q) := by
  unfold waitSx busyP freeP
  iintro ⟨#Hkn, ⟨Hr, Hf⟩, HO⟩ Hk
  iapply (waitOwn m K c (tag_sxSem (par k)) (rWin k) (pSlot (par k)) (word_r k) (word_p (par k)) (credit_p (par k)) n r) $$ [Hf HO]
  · isplitr; · iexact Hkn
    isplitl [Hf]; · iexact Hf
    iexact HO
  iintro ⟨Hl, Hv, HO⟩
  iapply Hk
  isplitr [HO]
  · isplitr [Hv]
    · iapply (has_free c (pSlot (par k)) (prodAt m c k))
      iapply (has_join c (pSlot (par k)) (prodAt m c k))
      isplitl [Hl]; · iexact Hl
      iexact Hr
    · iexact Hv
  · iexact HO

/-- The slot of sum `k` is empty once the sum has left and is stored. -/
theorem waitY_spec (c : Dev nD) (k : Fin 16) (n r : ℕ) (Q : PUnit → sProp 𝕄) :
    iprop(know m K ∗ busyY m c k ∗ owing c (owedX c n + owedY c r))
      ⊢ iprop((iprop(freeY c (par k) ∗ has c (oWin c k) fullShare (sumAt m c k) ∗ owing c (owedX c n + owedY c r)) -∗ Q ⟨⟩)
        -∗ run c (do waitSy c k; waitO c k) Q) := by
  unfold waitSy waitO busyY freeY
  iintro ⟨#Hkn, ⟨Hf, Hg⟩, HO⟩ Hk
  rw [run_bind]
  iapply (waitOwn m K c (tag_sySem (par k)) (oWin c k) (ySlot (par k)) (word_o c k) (word_y (par k)) (credit_y (par k)) n r) $$ [Hf HO]
  · isplitr; · iexact Hkn
    isplitl [Hf]; · iexact Hf
    iexact HO
  iintro ⟨Hl, Hv, HO⟩
  iapply (waitOwn m K c (tag_oSem (par k)) (ySlot (par k)) (oWin c k) (word_y (par k)) (word_o c k) (credit_o c k) n r) $$ [Hg HO]
  · isplitr; · iexact Hkn
    isplitl [Hg]; · iexact Hg
    iexact HO
  iintro ⟨⟨Ho, Hr⟩, Hu, HO⟩
  iapply Hk
  isplitr [Ho HO]
  · isplitr [Hv Hu]
    · iapply (has_free c (ySlot (par k)) (sumAt m c k))
      iapply (has_join c (ySlot (par k)) (sumAt m c k))
      isplitl [Hl]; · iexact Hl
      iexact Hr
    · isplitl [Hv]; · iexact Hv
      iexact Hu
  · isplitl [Ho]; · iexact Ho
    iexact HO

/-- Before product `i` its slot is made empty. -/
theorem emptyP_spec (c : Dev nD) (i : Fin 16) (n r : ℕ) (Q : PUnit → sProp 𝕄) :
    iprop(know m K ∗ slotP m c i.val ∗ owing c (owedX c n + owedY c r))
      ⊢ iprop((iprop(freeP c (par i) ∗ owing c (owedX c n + owedY c r)) -∗ Q ⟨⟩)
        -∗ run c (emptyP i) Q) := by
  unfold emptyP
  by_cases h : 2 ≤ i.val
  · obtain ⟨k, hk⟩ : ∃ k, i.val = k + 2 := ⟨i.val - 2, by omega⟩
    have hp : par i = par (stepNo k) := by rw [← par_add_two k, ← hk, stepNo_val]
    rw [if_pos h, hp, hk, slotP_busy, Nat.add_sub_cancel]
    exact waitSx_spec m K c (stepNo k) n r Q
  · rw [if_neg h]
    unfold slotP
    rw [if_pos (by omega), stepNo_val]
    iintro ⟨-, Hp, HO⟩ Hk
    iapply (run_pure c PUnit.unit Q)
    iapply Hk
    isplitl [Hp]; · iexact Hp
    iexact HO

/-- Before sum `j` its slot is made empty; the sum it held is stored. -/
theorem emptyY_spec (c : Dev nD) (j : Fin 16) (n r : ℕ) (Q : PUnit → sProp 𝕄) :
    iprop(know m K ∗ slotY m c j.val ∗ done (j.val - 2) (fun i => has c (oWin c i) fullShare (sumAt m c i)) ∗ owing c (owedX c n + owedY c r))
      ⊢ iprop((iprop(freeY c (par j) ∗ done (j.val + 1 - 2) (fun i => has c (oWin c i) fullShare (sumAt m c i)) ∗ owing c (owedX c n + owedY c r)) -∗ Q ⟨⟩)
        -∗ run c (emptyY c j) Q) := by
  unfold emptyY
  by_cases h : 2 ≤ j.val
  · obtain ⟨k, hk⟩ : ∃ k, j.val = k + 2 := ⟨j.val - 2, by omega⟩
    have hp : par j = par (stepNo k) := by rw [← par_add_two k, ← hk, stepNo_val]
    have hk16 : (stepNo k).val = k := stepNo_lt (by have := j.isLt; omega)
    rw [if_pos h, hp, hk, slotY_busy, Nat.add_sub_cancel, show k + 2 + 1 - 2 = (stepNo k).val + 1 from by omega, done_push]
    iintro ⟨#Hkn, Hy, Hd, HO⟩ Hk
    iapply (waitY_spec m K c (stepNo k) n r) $$ [Hy HO]
    · isplitr; · iexact Hkn
      isplitl [Hy]; · iexact Hy
      iexact HO
    iintro ⟨Hy, Ho, HO⟩
    iapply Hk
    isplitl [Hy]; · iexact Hy
    isplitr [HO]
    · isplitl [Ho]; · iexact Ho
      rw [hk16]; iexact Hd
    · iexact HO
  · rw [if_neg h]
    unfold slotY
    rw [if_pos (by omega), stepNo_val, show j.val - 2 = 0 from by omega, show j.val + 1 - 2 = 0 from by omega]
    iintro ⟨-, Hy, Hd, HO⟩ Hk
    iapply (run_pure c PUnit.unit Q)
    iapply Hk
    isplitl [Hy]; · iexact Hy
    isplitl [Hd]; · iexact Hd
    iexact HO

/-! ## The first half of a step -/

/-- The next rows are sent for, if there are more. -/
theorem more_spec (c : Dev nD) (i : Fin 16) (Q : PUnit → sProp 𝕄) :
    iprop(freeA (F := F) c (par (stepNo (i.val + 1))) ∗ rest (i.val + 1) (fun i => has c (aWin c i) fullShare.right (rowsA m c i)))
      ⊢ iprop((iprop((freeA (F := F) c (par i) -∗ loads m c (i.val + 1)) ∗ rest (i.val + 1 + 1) (fun i => has c (aWin c i) fullShare.right (rowsA m c i))) -∗ Q ⟨⟩)
        -∗ run c (more c i) Q) := by
  unfold more
  have hp : par (stepNo (i.val + 1 + 1)) = par i := (par_add_two i.val).trans (congrArg par (stepNo_val i))
  have hl : (loads m c (i.val + 1) : sProp 𝕄) = if i.val < 15 then
      iprop(flying c (aSem (par (stepNo (i.val + 1)))) NA
          iprop(has c (aSlot (par (stepNo (i.val + 1)))) fullShare (rowsA m c (stepNo (i.val + 1))) ∗ has c (aWin c (stepNo (i.val + 1))) fullShare.right (rowsA m c (stepNo (i.val + 1))))
        ∗ freeA c (par i))
      else iprop(freeA c (par (stepNo (i.val + 1))) ∗ freeA c (par i)) := by
    unfold loads
    rw [hp]
    exact if_congr (by omega) rfl rfl
  rw [hl]
  by_cases h : i.val < 15
  · have hv : (stepNo (i.val + 1)).val = i.val + 1 := stepNo_lt (by omega)
    have hr := rest_take (stepNo (i.val + 1)) (fun i => has c (aWin c i) fullShare.right (rowsA m c i))
    rw [hv] at hr
    rw [if_pos h, if_pos h, hr]
    unfold loadA
    rw [show (freeA (F := F) c (par (stepNo (i.val + 1))) : sProp 𝕄) = iprop(free (F := F) c (aSlot (par (stepNo (i.val + 1)))) ∗ idle c (aSem (par (stepNo (i.val + 1))))) from rfl]
    iintro ⟨⟨Hs, Hv⟩, Hw, Hr⟩ Hk
    iapply (dmaHere c (credit_a _) NA_pos) $$ [Hs Hv Hw]
    · isplitl [Hw]; · iexact Hw
      isplitl [Hs]; · iexact Hs
      iexact Hv
    iintro Hf
    iapply Hk
    isplitl [Hf]
    · iintro HA
      isplitl [Hf]; · iexact Hf
      iexact HA
    · iexact Hr
  · have hr : rest (i.val + 1 + 1) (fun i => has c (aWin c i) fullShare.right (rowsA m c i)) = iprop(emp) := by
      unfold rest
      rw [Finset.filter_false_of_mem fun k _ => by have := k.isLt; omega]; rfl
    rw [if_neg h, if_neg h, hr]
    iintro ⟨HA, -⟩ Hk
    iapply (run_pure c PUnit.unit Q)
    iapply Hk
    isplitl [HA]
    · iintro HB
      isplitl [HA]; · iexact HA
      iexact HB
    · iempintro

/-- Product `i`, made and sent. -/
theorem product_spec (c : Dev nD) (i : Fin 16) (r : ℕ) (Q : PUnit → sProp 𝕄) :
    iprop(know m K ∗ needX m c i.val ∗ slotP m c i.val ∗ has c (Memref.whole cc0_stg0_0) fullShare (bStg m c) ∗ owing c (owedX c i.val + owedY c r))
      ⊢ iprop((iprop(needX m c (i.val + 1) ∗ busyP m c i ∗ has c (Memref.whole cc0_stg0_0) fullShare (bStg m c) ∗ owing c (owedX c (i.val + 1) + owedY c r)) -∗ Q ⟨⟩)
        -∗ run c (product c i) Q) := by
  unfold product needX
  iintro ⟨#Hkn, ⟨Hl, Ha, Hw, Ht⟩, Hp, HB, HO⟩ Hk
  rw [run_bind]
  iapply (emptyP_spec m K c i i.val r) $$ [Hp HO]
  · isplitr; · iexact Hkn
    isplitl [Hp]; · iexact Hp
    iexact HO
  iintro ⟨Hp, HO⟩
  rw [run_bind]
  have hl : loads m c i.val = iprop(flying c (aSem (par i)) NA iprop(has c (aSlot (par i)) fullShare (rowsA m c i) ∗ has c (aWin c i) fullShare.right (rowsA m c i))
      ∗ freeA c (par (stepNo (i.val + 1)))) := by
    unfold loads; rw [if_pos i.isLt, stepNo_val]
  ihave Hl := (Entails.of_eq hl) $$ Hl
  icases Hl with ⟨Hf, Hn⟩
  unfold waitA
  iapply (waitOwn m K c (tag_aSem (par i)) (aWin c i) (aSlot (par i)) (word_a c i) (word_as (par i)) (credit_a (par i)) i.val r) $$ [Hf HO]
  · isplitr; · iexact Hkn
    isplitl [Hf]; · iexact Hf
    iexact HO
  iintro ⟨⟨Hs, -⟩, Hv, HO⟩
  rw [run_bind]
  iapply (more_spec m c i) $$ [Hn Ha]
  · isplitl [Hn]; · iexact Hn
    iexact Ha
  iintro ⟨Hl, Ha⟩
  rw [run_bind]
  unfold freeP
  icases Hp with ⟨Hp, Hx⟩
  iapply (multiply_spec c (par i) (rowsA m c i) (bStg m c)) $$ [Hs HB Hp]
  · isplitl [Hs]; · iexact Hs
    isplitl [HB]; · iexact HB
    iexact Hp
  iintro ⟨Hs, HB, Hp⟩
  ihave Hs := (has_free c (aSlot (par i)) (rowsA m c i)) $$ Hs
  ihave Hl := Hl $$ [Hs Hv]
  · unfold freeA
    isplitl [Hs]; · iexact Hs
    iexact Hv
  ihave Hp2 := (has_split c (pSlot (par i)) (mulBlock (rowsA m c i) (bStg m c))) $$ Hp
  icases Hp2 with ⟨Hpl, Hpr⟩
  ihave Hw := (rest_split i (fun i => free (F := F) (px c) (rWin i))) $$ Hw
  ihave Ht := (rest_split i (fun i => dutyTok ER (cell (px c) (some (false, i))) 0 false)) $$ Ht
  icases Hw with ⟨Hw, Hws⟩
  icases Ht with ⟨Ht, Hts⟩
  ihave #Hinv := (know_inv m K (px c) (some (false, i))) $$ Hkn
  ihave #Hat := (know_at m K (px c) (some (false, i))) $$ Hkn
  unfold sendX
  have hpay : (has (px c) (rWin i) fullShare (prodAt m c i) : sProp 𝕄) ⊢ payOf m (px c) false (some (some (false, i))) := by
    simp only [payOf]
    unfold gotX
    rw [px_px]
  have hO : owedX c i.val + owedY c r = owedX c (i.val + 1) + owedY c r + tallyAt (cell (px c) (some (false, i))) () NP := by
    rw [owedX_take c i]; exact add_right_comm _ _ _
  iapply (sendAway c m (p := (false, i)) rfl (O := owedX c (i.val + 1) + owedY c r) (credit_r i)
      hO hpay) $$ [Hpl Hw Hx HO Ht]
  · isplitl [Hpl]; · iexact Hpl
    isplitl [Hw]; · iexact Hw
    isplitl [Hx]; · iexact Hx
    isplitl [HO]; · iexact HO
    isplitr; · iexact Hinv
    isplitl [Ht]; · iexact Ht
    iexact Hat
  iintro ⟨Hf, HO⟩
  iapply Hk
  isplitl [Hl Ha Hws Hts]
  · isplitl [Hl]; · iexact Hl
    isplitl [Ha]; · iexact Ha
    isplitl [Hws]; · iexact Hws
    iexact Hts
  isplitl [Hpr Hf]
  · unfold busyP
    isplitl [Hpr]; · iexact Hpr
    iexact Hf
  isplitl [HB]; · iexact HB
  iexact HO

/-! ## The second half of a step -/

/-- Sum `j`, made, sent and stored. -/
theorem reduce_spec (c : Dev nD) (j : Fin 16) (n : ℕ) (hn : j.val < n) (Q : PUnit → sProp 𝕄) :
    iprop(know m K ∗ busyP m c j ∗ needY m c j.val ∗ slotY m c j.val ∗ owing c (owedX c n + owedY c j.val))
      ⊢ iprop((iprop(busyP m c j ∗ needY m c (j.val + 1) ∗ busyY m c j ∗ owing c (owedX c n + owedY c (j.val + 1))) -∗ Q ⟨⟩)
        -∗ run c (reduce c j) Q) := by
  unfold reduce needY busyP
  iintro ⟨#Hkn, ⟨Hp, Hpf⟩, ⟨HT, Hown, Hpeer, Htok, Hcr, Hat, Hidle, Hdone⟩, Hy, HO⟩ Hk
  ihave Hown := (rest_split j (fun i => free (F := F) c (oWin c i))) $$ Hown
  ihave Hpeer := (rest_split j (fun i => free (F := F) (py c) (oWin c i))) $$ Hpeer
  ihave Htok := (rest_split j (fun i => dutyTok ER (cell (py c) (some (true, i))) 0 false)) $$ Htok
  ihave Hcr := (rest_split j (fun i => cred (tallyAt (cell c (some (false, i))) () NP))) $$ Hcr
  ihave Hat := (rest_split j (fun i => atPos ER (cell c (some (false, i))) 0 ∅ 0)) $$ Hat
  icases Hown with ⟨Ho, Hown⟩
  icases Hpeer with ⟨Hq, Hpeer⟩
  icases Htok with ⟨Ht, Htok⟩
  icases Hcr with ⟨Hc, Hcr⟩
  icases Hat with ⟨Hpos, Hat⟩
  ihave #Hinv := (know_inv m K c (some (false, j))) $$ Hkn
  ihave #Hinv' := (know_inv m K (py c) (some (true, j))) $$ Hkn
  ihave #Hat' := (know_at m K (py c) (some (true, j))) $$ Hkn
  ihave Hlev := (know_lev m K) $$ Hkn
  ihave Hmw := (mayWait_rx c j n j.val hn) $$ Hlev
  rw [run_bind]
  unfold waitRx
  iapply (takeArrival c m (p := (false, j)) rfl (pSlot (par j)) (rWin j) (word_p (par j)) (word_r j) (credit_r j)) $$ [Hc HO Hmw Hpos]
  · isplitr; · iexact Hinv
    isplitl [Hc]; · iexact Hc
    isplitl [HO]; · iexact HO
    isplitl [Hmw]; · iexact Hmw
    iexact Hpos
  iintro ⟨Hr, Hi, HO⟩
  ihave Hr := (Entails.of_eq (show payOf m c false (some (some (false, j))) = has c (rWin j) fullShare (prodAt m (px c) j) from rfl)) $$ Hr
  rw [run_bind]
  unfold loadT freeT
  icases HT with ⟨HT, Hv⟩
  iapply (dmaHere c credit_t NP_pos) $$ [Hr HT Hv]
  · isplitl [Hr]; · iexact Hr
    isplitl [HT]; · iexact HT
    iexact Hv
  iintro Hf
  rw [run_bind]
  iapply (emptyY_spec m K c j n j.val) $$ [Hy Hdone HO]
  · isplitr; · iexact Hkn
    isplitl [Hy]; · iexact Hy
    isplitl [Hdone]; · iexact Hdone
    iexact HO
  iintro ⟨Hy, Hdone, HO⟩
  rw [run_bind]
  unfold waitT
  iapply (waitOwn m K c tag_tSem (rWin j) (Memref.whole cc0_scratch2) (word_r j) word_t credit_t n j.val) $$ [Hf HO]
  · isplitr; · iexact Hkn
    isplitl [Hf]; · iexact Hf
    iexact HO
  iintro ⟨⟨HT, -⟩, Hv, HO⟩
  rw [run_bind]
  unfold freeY
  icases Hy with ⟨Hy, Hsy, Hst⟩
  iapply (addUp_spec c (par j) (prodAt m c j) (prodAt m (px c) j)) $$ [Hp HT Hy]
  · isplitl [Hp]; · iexact Hp
    isplitl [HT]; · iexact HT
    iexact Hy
  iintro ⟨Hp, HT, Hy⟩
  ihave Hy := (Entails.of_eq (show has c (ySlot (par j)) fullShare (addf (prodAt m c j) (prodAt m (px c) j) : FVec F S128x4096 .f32) = has c (ySlot (par j)) fullShare (sumAt m c j) from rfl)) $$ Hy
  ihave HT := (has_free c (Memref.whole cc0_scratch2) (prodAt m (px c) j)) $$ HT
  ihave Hy2 := (has_split c (ySlot (par j)) (sumAt m c j)) $$ Hy
  icases Hy2 with ⟨Hyl, Hyr⟩
  rw [run_bind]
  unfold sendY
  have hpay : (has (py c) (oWin c j) fullShare (sumAt m c j) : sProp 𝕄) ⊢ payOf m (py c) false (some (some (true, j))) := by
    simp only [payOf]
    unfold gotY
    rw [py_py]
  have hO : owedX c n + owedY c j.val = owedX c n + owedY c (j.val + 1) + tallyAt (cell (py c) (some (true, j))) () NP := by
    rw [owedY_take c j]; exact (add_assoc _ _ _).symm
  iapply (sendAway c m (p := (true, j)) rfl (O := owedX c n + owedY c (j.val + 1)) (credit_o c j)
      hO hpay) $$ [Hyl Hq Hsy HO Ht]
  · isplitl [Hyl]; · iexact Hyl
    isplitl [Hq]; · iexact Hq
    isplitl [Hsy]; · iexact Hsy
    isplitl [HO]; · iexact HO
    isplitr; · iexact Hinv'
    isplitl [Ht]; · iexact Ht
    iexact Hat'
  iintro ⟨Hyf, HO⟩
  unfold storeO
  iapply (dmaHere c (credit_o c j) NP_pos) $$ [Hyr Ho Hst]
  · isplitl [Hyr]; · iexact Hyr
    isplitl [Ho]; · iexact Ho
    iexact Hst
  iintro Hof
  iapply Hk
  isplitl [Hp Hpf]
  · isplitl [Hp]; · iexact Hp
    iexact Hpf
  isplitl [HT Hv Hown Hpeer Htok Hcr Hat Hidle Hi Hdone]
  · isplitl [HT Hv]
    · isplitl [HT]; · iexact HT
      iexact Hv
    isplitl [Hown]; · iexact Hown
    isplitl [Hpeer]; · iexact Hpeer
    isplitl [Htok]; · iexact Htok
    isplitl [Hcr]; · iexact Hcr
    isplitl [Hat]; · iexact Hat
    isplitl [Hidle Hi]
    · rw [done_push]
      isplitl [Hi]; · iexact Hi
      iexact Hidle
    · iexact Hdone
  isplitl [Hyf Hof]
  · unfold busyY
    isplitl [Hyf]; · iexact Hyf
    iexact Hof
  iexact HO

end Cert.TwoPhase

end
-- ==== Proof.Body.lean ====
module

public import proofs.«01_k».proof.Proof.Phases

/-! The sixteen steps and what follows them. -/

@[expose] public section

noncomputable section

namespace Cert.TwoPhase

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (K : Dev nD × Tag → ℕ)

/-- The sum that follows product `i`, if one does. -/
def follow (d : Dev nD) (i : Fin 16) : Code F := if 1 ≤ i.val then reduce d (stepNo (i.val - 1)) else pure ⟨⟩

theorem step_eq (d : Dev nD) (i : Fin 16) : step (F := F) d i = (product d i >>= fun _ => follow d i) := rfl

/-- A sum keeps what the slots are said to hold. -/
theorem follow_spec (c : Dev nD) (i : Fin 16) (Q : PUnit → sProp 𝕄) :
    iprop(know m K ∗ slotP m c (i.val + 1) ∗ needY m c (i.val - 1) ∗ slotY m c (i.val - 1) ∗ slotY m c (i.val - 1 + 1) ∗ owing c (owedX c (i.val + 1) + owedY c (i.val - 1)))
      ⊢ iprop((iprop(slotP m c (i.val + 1) ∗ needY m c i.val ∗ slotY m c i.val ∗ slotY m c (i.val + 1) ∗ owing c (owedX c (i.val + 1) + owedY c i.val)) -∗ Q ⟨⟩)
        -∗ run c (follow c i) Q) := by
  unfold follow
  by_cases h : 1 ≤ i.val
  · obtain ⟨k, hk⟩ : ∃ k, i.val = k + 1 := ⟨i.val - 1, by omega⟩
    have hv : (stepNo k).val = k := stepNo_lt (by have := i.isLt; omega)
    rw [if_pos h, hk, Nat.add_sub_cancel, show k + 1 + 1 = k + 2 from rfl, slotP_busy, slotY_busy]
    have hs := reduce_spec m K c (stepNo k) (k + 2) (by omega) Q
    rw [hv] at hs
    iintro ⟨#Hkn, Hp, Hn, Hy, Hy', HO⟩ Hk
    iapply hs $$ [Hp Hn Hy HO]
    · isplitr; · iexact Hkn
      isplitl [Hp]; · iexact Hp
      isplitl [Hn]; · iexact Hn
      isplitl [Hy]; · iexact Hy
      iexact HO
    iintro ⟨Hp, Hn, Hy, HO⟩
    iapply Hk
    isplitl [Hp]; · iexact Hp
    isplitl [Hn]; · iexact Hn
    isplitl [Hy']; · iexact Hy'
    isplitl [Hy]; · iexact Hy
    iexact HO
  · have h0 : i.val = 0 := by omega
    rw [if_neg h, h0]
    iintro ⟨-, H⟩ Hk
    iapply (run_pure c PUnit.unit Q)
    iapply Hk
    iexact H

/-- One step. -/
theorem step_spec (c : Dev nD) (i : Fin 16) (Q : PUnit → sProp 𝕄) :
    iprop(know m K ∗ between m c i.val) ⊢ iprop((between m c (i.val + 1) -∗ Q ⟨⟩) -∗ run c (step c i) Q) := by
  rw [step_eq, run_bind]
  unfold between
  rw [Nat.add_sub_cancel, show i.val + 1 + 1 = i.val + 2 from rfl, slotP_busy, stepNo_val]
  iintro ⟨#Hkn, Hx, Hp, Hp', Hn, Hy, Hy', HB, HO⟩ Hk
  iapply (product_spec m K c i (i.val - 1)) $$ [Hx Hp HB HO]
  · isplitr; · iexact Hkn
    isplitl [Hx]; · iexact Hx
    isplitl [Hp]; · iexact Hp
    isplitl [HB]; · iexact HB
    iexact HO
  iintro ⟨Hx, Hp, HB, HO⟩
  iapply (follow_spec m K c i) $$ [Hp' Hn Hy Hy' HO]
  · isplitr; · iexact Hkn
    isplitl [Hp']; · iexact Hp'
    isplitl [Hn]; · iexact Hn
    isplitl [Hy]; · iexact Hy
    isplitl [Hy']; · iexact Hy'
    iexact HO
  iintro ⟨Hp', Hn, Hy, Hy', HO⟩
  iapply Hk
  isplitl [Hx]; · iexact Hx
  isplitl [Hp']; · iexact Hp'
  isplitl [Hp]; · iexact Hp
  isplitl [Hn]; · iexact Hn
  isplitl [Hy]; · iexact Hy
  isplitl [Hy']; · iexact Hy'
  isplitl [HB]; · iexact HB
  iexact HO

omit [FloatOps F] in
/-- Nothing is left to be owed. -/
theorem owing_end (c : Dev nD) : (owing c (owedX c 16 + owedY c 16) : sProp 𝕄) ⊢ owing c 0 := by
  rw [owedX_end, owedY_end, add_zero]
omit [FloatOps F] in
theorem owing_end' (c : Dev nD) : (owing c 0 : sProp 𝕄) ⊢ owing c (owedX c 16 + owedY c 16) := by
  rw [owedX_end, owedY_end, add_zero]

/-- The waits for the arrivals of the last `n` sums. -/
theorem arrivals_spec (c : Dev nD) (Q : PUnit → sProp 𝕄) (n : ℕ) (hn : n ≤ 16) :
    iprop(know m K ∗ needIn m c (16 - n) ∗ owing c 0)
      ⊢ iprop((iprop(needIn m c 16 ∗ owing c 0) -∗ Q ⟨⟩) -∗ run c (arrivals c n) Q) := by
  induction n with
  | zero =>
    iintro ⟨-, H⟩ Hk
    unfold arrivals
    iapply (run_pure c PUnit.unit Q)
    iapply Hk
    iexact H
  | succ n ih =>
    have hv : (stepNo (15 - n)).val = 15 - n := stepNo_lt (by omega)
    have hx : needIn m c (15 - n) ⊢ iprop(
        (iprop(cred (tallyAt (cell c (some (true, stepNo (15 - n)))) () NP) ∗ atPos ER (cell c (some (true, stepNo (15 - n)))) 0 ∅ 0))
        ∗ ((iprop(gotY m c (stepNo (15 - n)) ∗ idle c (rySem (stepNo (15 - n))))) -∗ needIn m c (16 - n))) := by
      unfold needIn
      rw [show 16 - n = (stepNo (15 - n)).val + 1 from by omega, done_push, done_push]
      conv_lhs => rw [← hv]
      rw [rest_take, rest_take]
      iintro ⟨⟨Hc, Hcs⟩, ⟨Ha, Has⟩, Hi, Hg⟩
      isplitl [Hc Ha]
      · isplitl [Hc]; · iexact Hc
        iexact Ha
      iintro ⟨Hg', Hi'⟩
      isplitl [Hcs]; · iexact Hcs
      isplitl [Has]; · iexact Has
      isplitl [Hi Hi']
      · isplitl [Hi']; · iexact Hi'
        iexact Hi
      · isplitl [Hg']; · iexact Hg'
        iexact Hg
    unfold arrivals
    rw [show 16 - (n + 1) = 15 - n from by omega, run_bind]
    iintro ⟨#Hkn, Hin, HO⟩ Hk
    ihave Hin := hx $$ Hin
    icases Hin with ⟨⟨Hc, Ha⟩, Hin⟩
    ihave #Hinv := (know_inv m K c (some (true, stepNo (15 - n)))) $$ Hkn
    have hmw : (emp : sProp 𝕄) ⊢ MayWait (c : Thread nD τ) (.dma (rySem (stepNo (15 - n)))) () 0 := by
      rw [MayWait_zero]; exact Entails.refl _
    unfold waitRy
    iapply (takeArrival c m (p := (true, stepNo (15 - n))) rfl (ySlot (par (stepNo (15 - n)))) (oWin c (stepNo (15 - n))) (word_y _) (word_o c _) (credit_o c _) (O := 0)) $$ [Hc HO Ha]
    · isplitr; · iexact Hinv
      isplitl [Hc]; · iexact Hc
      isplitl [HO]; · iexact HO
      isplitr [Ha]; · iapply hmw; iempintro
      iexact Ha
    iintro ⟨Hg, Hi, HO⟩
    ihave Hg := (Entails.of_eq (show payOf m c false (some (some (true, stepNo (15 - n)))) = gotY m c (stepNo (15 - n)) from rfl)) $$ Hg
    ihave Hin := Hin $$ [Hg Hi]
    · isplitl [Hg]; · iexact Hg
      iexact Hi
    iapply (ih (by omega)) $$ [Hin HO]
    · isplitr; · iexact Hkn
      isplitl [Hin]; · iexact Hin
      iexact HO
    iexact Hk

/-- What a device holds before the last sum, its two slots of products and the older slot of sums in use. -/
theorem between_end (c : Dev nD) : between m c 16
    = iprop(needX m c 16 ∗ busyP m c 14 ∗ busyP m c 15 ∗ needY m c 15 ∗ slotY m c 15 ∗ busyY m c 14
      ∗ has c (Memref.whole cc0_stg0_0) fullShare (bStg m c) ∗ owing c (owedX c 16 + owedY c 15)) := by
  rw [between, show slotP m c 16 = busyP m c 14 from slotP_busy m c 14, show slotP m c (16 + 1) = busyP m c 15 from slotP_busy m c 15,
    show slotY m c (16 - 1 + 1) = busyY m c 14 from slotY_busy m c 14]

/-- What follows the sixteen steps. -/
theorem epilogue_spec (c : Dev nD) (Q : PUnit → sProp 𝕄) :
    iprop(know m K ∗ between m c 16 ∗ needIn m c 0) ⊢ iprop((after m c -∗ Q ⟨⟩) -∗ run c (epilogue c) Q) := by
  unfold epilogue
  rw [between_end, run_bind]
  iintro ⟨#Hkn, ⟨Hx, Hp, Hp', Hn, Hy, Hy', HB, HO⟩, Hin⟩ Hk
  have hs := reduce_spec m K c 15 16 (by decide)
  iapply (hs _) $$ [Hp' Hn Hy HO]
  · isplitr; · iexact Hkn
    isplitl [Hp']; · iexact Hp'
    isplitl [Hn]; · iexact Hn
    isplitl [Hy]; · iexact Hy
    iexact HO
  iintro ⟨Hp', Hn, Hy, HO⟩
  rw [run_bind]
  iapply (waitSx_spec m K c 14 16 16) $$ [Hp HO]
  · isplitr; · iexact Hkn
    isplitl [Hp]; · iexact Hp
    iexact HO
  iintro ⟨Hp, HO⟩
  rw [run_bind]
  iapply (waitSx_spec m K c 15 16 16) $$ [Hp' HO]
  · isplitr; · iexact Hkn
    isplitl [Hp']; · iexact Hp'
    iexact HO
  iintro ⟨Hp', HO⟩
  unfold busyY
  icases Hy' with ⟨Hf14, Hg14⟩
  icases Hy with ⟨Hf15, Hg15⟩
  rw [run_bind]
  unfold waitSy
  iapply (waitOwn m K c (tag_sySem (par 14)) (oWin c 14) (ySlot (par 14)) (word_o c 14) (word_y (par 14)) (credit_y (par 14)) 16 16) $$ [Hf14 HO]
  · isplitr; · iexact Hkn
    isplitl [Hf14]; · iexact Hf14
    iexact HO
  iintro ⟨Hl14, Hv14, HO⟩
  rw [run_bind]
  iapply (waitOwn m K c (tag_sySem (par 15)) (oWin c 15) (ySlot (par 15)) (word_o c 15) (word_y (par 15)) (credit_y (par 15)) 16 16) $$ [Hf15 HO]
  · isplitr; · iexact Hkn
    isplitl [Hf15]; · iexact Hf15
    iexact HO
  iintro ⟨Hl15, Hv15, HO⟩
  rw [run_bind]
  unfold waitO
  iapply (waitOwn m K c (tag_oSem (par 14)) (ySlot (par 14)) (oWin c 14) (word_y (par 14)) (word_o c 14) (credit_o c 14) 16 16) $$ [Hg14 HO]
  · isplitr; · iexact Hkn
    isplitl [Hg14]; · iexact Hg14
    iexact HO
  iintro ⟨⟨Ho14, Hr14⟩, Hu14, HO⟩
  rw [run_bind]
  iapply (waitOwn m K c (tag_oSem (par 15)) (ySlot (par 15)) (oWin c 15) (word_y (par 15)) (word_o c 15) (credit_o c 15) 16 16) $$ [Hg15 HO]
  · isplitr; · iexact Hkn
    isplitl [Hg15]; · iexact Hg15
    iexact HO
  iintro ⟨⟨Ho15, Hr15⟩, Hu15, HO⟩
  ihave HO := (owing_end c) $$ HO
  iapply (arrivals_spec m K c Q 16 le_rfl) $$ [Hin HO]
  · isplitr; · iexact Hkn
    isplitl [Hin]; · iexact Hin
    iexact HO
  iintro ⟨Hin, HO⟩
  iapply Hk
  unfold after needX needY needIn
  have hl : loads m c 16 ⊢ iprop(freeA c 0 ∗ freeA c 1) := by
    unfold loads; rw [if_neg (by decide)]; exact Entails.refl _
  icases Hx with ⟨Hld, -⟩
  ihave Hld := hl $$ Hld
  icases Hld with ⟨HA0, HA1⟩
  icases Hn with ⟨HT, -, -, -, -, -, Hrx, Hst⟩
  icases Hin with ⟨-, -, Hry, Hgot⟩
  isplitl [HA0]; · iexact HA0
  isplitl [HA1]; · iexact HA1
  isplitl [Hp]; · iexact Hp
  isplitl [Hp']; · iexact Hp'
  isplitl [Hl14 Hr14 Hv14 Hu14]
  · unfold freeY
    isplitl [Hl14 Hr14]
    · iapply (has_free c (ySlot (par 14)) (sumAt m c 14))
      iapply (has_join c (ySlot (par 14)) (sumAt m c 14))
      isplitl [Hl14]; · iexact Hl14
      iexact Hr14
    isplitl [Hv14]; · iexact Hv14
    iexact Hu14
  isplitl [Hl15 Hr15 Hv15 Hu15]
  · unfold freeY
    isplitl [Hl15 Hr15]
    · iapply (has_free c (ySlot (par 15)) (sumAt m c 15))
      iapply (has_join c (ySlot (par 15)) (sumAt m c 15))
      isplitl [Hl15]; · iexact Hl15
      iexact Hr15
    isplitl [Hv15]; · iexact Hv15
    iexact Hu15
  isplitl [HT]; · iexact HT
  isplitl [Hrx]
  · iapply (Entails.of_eq (done_all (fun i => idle (F := F) c (rxSem i)))); iexact Hrx
  isplitl [Hry]
  · iapply (Entails.of_eq (done_all (fun i => idle (F := F) c (rySem i)))); iexact Hry
  isplitl [Ho14 Ho15 Hst]
  · iapply (Entails.of_eq (done_all (fun i => has c (oWin c i) fullShare (sumAt m c i))))
    iapply (Entails.of_eq (done_push 15 (fun i => has c (oWin c i) fullShare (sumAt m c i))).symm)
    isplitl [Ho15]; · iexact Ho15
    iapply (Entails.of_eq (done_push 14 (fun i => has c (oWin c i) fullShare (sumAt m c i))).symm)
    isplitl [Ho14]; · iexact Ho14
    iexact Hst
  isplitl [Hgot]
  · iapply (Entails.of_eq (done_all (fun i => gotY m c i))); iexact Hgot
  isplitl [HB]; · iexact HB
  iexact HO

/-- The last `n` steps and what follows them. -/
theorem steps_spec (c : Dev nD) (Q : PUnit → sProp 𝕄) (n : ℕ) (hn : n ≤ 16) :
    iprop(know m K ∗ between m c (16 - n) ∗ needIn m c 0) ⊢ iprop((after m c -∗ Q ⟨⟩) -∗ run c (steps c n) Q) := by
  induction n with
  | zero => exact epilogue_spec m K c Q
  | succ n ih =>
    have hv : (stepNo (15 - n)).val = 15 - n := stepNo_lt (by omega)
    unfold steps
    have hs := step_spec m K c (stepNo (15 - n)) fun _ => run c (steps c n) Q
    rw [hv, show 15 - n + 1 = 16 - n from by omega] at hs
    rw [show 16 - (n + 1) = 15 - n from by omega, run_bind]
    iintro ⟨#Hkn, Hb, Hin⟩ Hk
    iapply hs $$ [Hb]
    · isplitr; · iexact Hkn
      iexact Hb
    iintro Hb
    iapply (ih (by omega)) $$ [Hb Hin]
    · isplitr; · iexact Hkn
      isplitl [Hb]; · iexact Hb
      iexact Hin
    iexact Hk

end Cert.TwoPhase

end
-- ==== Proof.Whole.lean ====
module

public import proofs.«01_k».proof.Proof.Body

/-! The whole body, from the barrier on. -/

@[expose] public section

noncomputable section

namespace Cert.TwoPhase

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (K : Dev nD × Tag → ℕ)

/-- The device's number is at hand. -/
theorem run_device {α : Type} (c : Dev nD) (k : Dev nD → Prog (TpuEff nD τ sig (Elt F) Λ₀ .tc) α) (Q : α → sProp 𝕄) :
    run c (Prog.lift .deviceId >>= k) Q = run c (k c) Q := by
  unfold run
  simp only [Prog.lift, Prog.bind_op, Prog.bind_ret, wp_deviceId]

/-- Signalling device `d`'s barrier discharges a unit of what is owed and hands over the payload. -/
theorem signalBar (c d : Dev nD) (b : Bool) {O₀ : CellTallies nD τ sig Unit} (O : CellTallies nD τ sig Unit) {κ : ℕ}
    (hO : O₀ = O + tallyAt (cell d none) () 1) (Q : PUnit → sProp 𝕄) :
    iprop(cellInv ER (Rd m) κ (cell d none) ∗ reached ER (cell d none) 0 ∗ owing c O₀ ∗ dutyTok ER (cell d none) 0 b ∗ payOf m d b (some none))
      ⊢ iprop((owing c O -∗ Q ⟨⟩) -∗ run c (semSignalWord d barS 1#32) Q) := by
  unfold run owing
  simp only [semSignalWord]
  have hpay : payOf m d b (some none) ⊢ (Rd m).payload ((d : Thread nD τ), .reg barS) 0 b := Entails.of_eq (payload_cell m d none 0 b).symm
  iintro ⟨#Hinv, #Hre, ⟨%W, HO⟩, Htok, Hpay⟩ Hk
  iapply (Rounds.wp_signal 𝒱₀ ER (Rd m) (c : Thread nD τ) none (dst := (d : Thread nD τ)) (κ := κ) (d := b)
      (show b ∈ (Rd m).duties (cell d none) 0 from by rw [duties_cell]; exact Finset.mem_univ _)
      ((amount_cell m d none 0 b).trans (by decide)) () O hO) $$ [HO Htok Hpay]
  · isplitr; · iexact Hinv
    isplitl [HO]; · iexact HO
    isplitl [Htok]; · iexact Htok
    isplitl [Hpay]; · iapply hpay $$ Hpay
    iexact Hre
  iintro HO
  rw [wp_ret]
  imodintro
  iapply Hk
  iexists W; iexact HO

/-- Waiting at the barrier takes what both neighbours hand over. -/
theorem waitBar (c : Dev nD) {O : CellTallies nD τ sig Unit} {κ : ℕ} (Q : PUnit → sProp 𝕄) :
    iprop(cellInv ER (Rd m) κ (cell c none) ∗ cred (tallyAt (cell c none) () 2) ∗ owing c O
        ∗ MayWait (c : Thread nD τ) (.reg barS) () O ∗ atPos ER (cell c none) 0 ∅ 0)
      ⊢ iprop((iprop(barX c ∗ barY c ∗ semVal (cell c none) 0 ∗ owing c O) -∗ Q ⟨⟩) -∗ run c (semWaitWord barS 2#32) Q) := by
  unfold run owing
  simp only [semWaitWord]
  iintro ⟨#Hinv, Hcr, ⟨%W, HO⟩, Hmw, Hat⟩ Hk
  have hx := expect_bar (F := F) m c
  have hall : bigSep ((Rd (F := F) m).duties ((c : Thread nD τ), .reg barS) 0 \ ∅) (fun d => (Rd m).payload ((c : Thread nD τ), .reg barS) 0 d) = iprop(barX c ∗ barY c) :=
    all_bar m c
  iapply (Rounds.wp_wait_rest_token 𝒱₀ ER (Rd m) (c : Thread nD τ) none (κ := κ)
      (wpE_semWait_eq 𝒱₀ (c : Thread nD τ) none Set.univ) (Set.mem_univ _) () (O := O) (W := W) (R := 0) (m := 0) (T := ∅)
      (show 0 + _ = (Rd m).expect (cell c none) 0 from by rw [hx]; decide)) $$ [Hcr HO Hmw Hat]
  · isplitr; · iexact Hinv
    isplitl [Hcr]; · iexact Hcr
    isplitl [HO]; · iexact HO
    isplitl [Hmw]; · iexact Hmw
    iexact Hat
  iintro ⟨HO, Hat, -, Hpay⟩
  ihave Hpay := (Entails.of_eq hall) $$ Hpay
  icases Hpay with ⟨Hx, Hy⟩
  rw [wp_ret]
  imod (Rounds.cell_close ER (Rd m) (Set.mem_univ κ) (fun h => h) (R := 0 + 1) (duties_later m _)) $$ [Hat] with Hv
  · isplitr; · iexact Hinv
    iexact Hat
  imodintro
  iapply Hk
  isplitl [Hx]; · iexact Hx
  isplitl [Hy]; · iexact Hy
  isplitl [Hv]; · iexact Hv
  iexists _; iexact HO

/-- What device `c` owes at the start: two barrier signals and every arrival. -/
def owed₀ (c : Dev nD) : CellTallies nD τ sig Unit :=
  owedX c 0 + owedY c 0 + tallyAt (cell (py c) none) () 1 + tallyAt (cell (px c) none) () 1

/-- The memory a device starts with, by slots and windows. -/
def places (c : Dev nD) : sProp 𝕄 :=
  iprop(freeA (F := F) c 0 ∗ freeA (F := F) c 1 ∗ freeP (F := F) c 0 ∗ freeP (F := F) c 1 ∗ freeY (F := F) c 0 ∗ freeY (F := F) c 1 ∗ freeT (F := F) c
    ∗ (bigSep Finset.univ fun i => has c (aWin c i) fullShare.right (rowsA m c i))
    ∗ (bigSep Finset.univ fun i => free (F := F) c (rWin i))
    ∗ (bigSep Finset.univ fun i => free (F := F) c (oWin (py c) i))
    ∗ (bigSep Finset.univ fun i => free (F := F) c (oWin c i)))

/-- The tokens a device starts with: its positions and the deliveries it makes. -/
def tokens (c : Dev nD) : sProp 𝕄 :=
  iprop((atPos ER (cell c none) 0 ∅ 0
      ∗ (bigSep Finset.univ fun i => atPos ER (cell c (some (false, i))) 0 ∅ 0)
      ∗ (bigSep Finset.univ fun i => atPos ER (cell c (some (true, i))) 0 ∅ 0))
    ∗ dutyTok ER (cell (px c) none) 0 false ∗ dutyTok ER (cell (py c) none) 0 true
    ∗ (bigSep Finset.univ fun i => dutyTok ER (cell (px c) (some (false, i))) 0 false)
    ∗ (bigSep Finset.univ fun i => dutyTok ER (cell (py c) (some (true, i))) 0 false))

/-- The credits a device starts with. -/
def credits (c : Dev nD) : sProp 𝕄 :=
  iprop(cred (tallyAt (cell c none) () 2)
    ∗ (bigSep Finset.univ fun i => cred (tallyAt (cell c (some (false, i))) () NP))
    ∗ (bigSep Finset.univ fun i => cred (tallyAt (cell c (some (true, i))) () NP)))

theorem slotP_start (c : Dev nD) (n : ℕ) (h : n < 2) : freeP (F := F) c (par (stepNo n)) ⊢ slotP m c n := by
  unfold slotP; rw [if_pos h]
theorem slotY_start (c : Dev nD) (n : ℕ) (h : n < 2) : freeY (F := F) c (par (stepNo n)) ⊢ slotY m c n := by
  unfold slotY; rw [if_pos h]

/-- The whole body. -/
theorem body_spec (c : Dev nD) (Q : PUnit → sProp 𝕄) :
    iprop(know m K ∗ places m c ∗ tokens c ∗ credits c ∗ has c (Memref.whole cc0_stg0_0) fullShare (bStg m c) ∗ owing c (owed₀ c))
      ⊢ iprop((iprop(after m c ∗ semVal (cell c none) 0) -∗ Q ⟨⟩) -∗ run c body Q) := by
  unfold body places tokens credits owed₀
  rw [run_device, run_bind]
  iintro ⟨#Hkn, ⟨HA0, HA1, HP0, HP1, HY0, HY1, HT, HAs, HR, HOy, HOc⟩, ⟨⟨HaB, HaX, HaY⟩, HtBx, HtBy, HtX, HtY⟩, ⟨HcB, HcX, HcY⟩, HB, HO⟩ Hk
  ihave #Hlev := (know_lev m K) $$ Hkn
  ihave #HIx := (know_inv m K (px c) none) $$ Hkn
  ihave #HIy := (know_inv m K (py c) none) $$ Hkn
  ihave #HIc := (know_inv m K c none) $$ Hkn
  ihave #Hrx := (know_at m K (px c) none) $$ Hkn
  ihave #Hry := (know_at m K (py c) none) $$ Hkn
  have hX : (bigSep Finset.univ fun i => free (F := F) c (rWin i) : sProp 𝕄) ⊢ payOf m (px c) false (some none) := by
    show _ ⊢ barX (px c)
    unfold barX; rw [px_px]
  have hY : (bigSep Finset.univ fun i => free (F := F) c (oWin (py c) i) : sProp 𝕄) ⊢ payOf m (py c) true (some none) := by
    show _ ⊢ barY (py c)
    unfold barY; rw [py_py]
  ihave HR := hX $$ HR
  ihave HOy := hY $$ HOy
  iapply (signalBar m c (px c) false (owedX c 0 + owedY c 0 + tallyAt (cell (py c) none) () 1) rfl) $$ [HO HtBx HR]
  · isplitr; · iexact HIx
    isplitr; · iexact Hrx
    isplitl [HO]; · iexact HO
    isplitl [HtBx]; · iexact HtBx
    iexact HR
  iintro HO
  rw [run_bind]
  iapply (signalBar m c (py c) true (owedX c 0 + owedY c 0) rfl) $$ [HO HtBy HOy]
  · isplitr; · iexact HIy
    isplitr; · iexact Hry
    isplitl [HO]; · iexact HO
    isplitl [HtBy]; · iexact HtBy
    iexact HOy
  iintro HO
  rw [run_bind]
  iapply (waitBar m c) $$ [HcB HO HaB]
  · isplitr; · iexact HIc
    isplitl [HcB]; · iexact HcB
    isplitl [HO]; · iexact HO
    isplitr; · iapply (mayWait_bar c); iexact Hlev
    iexact HaB
  iintro ⟨HRx, HOx, Hz, HO⟩
  rw [run_bind]
  unfold loadA barX barY
  ihave HAs := (Entails.of_eq ((rest_zero (fun i => has c (aWin c i) fullShare.right (rowsA m c i))).symm.trans (rest_take 0 (fun i => has c (aWin c i) fullShare.right (rowsA m c i))))) $$ HAs
  icases HAs with ⟨Hw, HAs⟩
  have hA0 : freeA (F := F) c 0 ⊢ iprop(free (F := F) c (aSlot (par 0)) ∗ idle c (aSem (par 0))) := Entails.refl _
  ihave HA0 := hA0 $$ HA0
  icases HA0 with ⟨HA0, Hv⟩
  iapply (dmaHere c (credit_a (par 0)) NA_pos) $$ [Hw HA0 Hv]
  · isplitl [Hw]; · iexact Hw
    isplitl [HA0]; · iexact HA0
    iexact Hv
  iintro Hf
  iapply (steps_spec m K c Q 16 le_rfl) $$ [Hf HA1 HP0 HP1 HY0 HY1 HT HAs HRx HOx HOc HaX HaY HtX HtY HcX HcY HB HO]
  · isplitr; · iexact Hkn
    unfold needIn between needX needY
    simp only [Nat.sub_self, Nat.zero_sub, rest_zero, done_zero]
    isplitr [HcY HaY]
    · isplitl [Hf HA1 HAs HRx HtX]
      · isplitl [Hf HA1]
        · unfold loads
          rw [if_pos (by decide)]
          isplitl [Hf]; · iexact Hf
          iexact HA1
        isplitl [HAs]; · iexact HAs
        isplitl [HRx]; · iexact HRx
        iexact HtX
      isplitl [HP0]; · iapply (slotP_start m c 0 (by decide)); iexact HP0
      isplitl [HP1]; · iapply (slotP_start m c 1 (by decide)); iexact HP1
      isplitl [HT HOc HOx HtY HcX HaX]
      · isplitl [HT]; · iexact HT
        isplitl [HOc]; · iexact HOc
        isplitl [HOx]; · iexact HOx
        isplitl [HtY]; · iexact HtY
        isplitl [HcX]; · iexact HcX
        isplitl [HaX]; · iexact HaX
        isplitr; · iempintro
        iempintro
      isplitl [HY0]; · iapply (slotY_start m c 0 (by decide)); iexact HY0
      isplitl [HY1]; · iapply (slotY_start m c 1 (by decide)); iexact HY1
      isplitl [HB]; · iexact HB
      iexact HO
    isplitl [HcY]; · iexact HcY
    isplitl [HaY]; · iexact HaY
    isplitr; · iempintro
    iempintro
  iintro Haf
  iapply Hk
  isplitl [Haf]; · iexact Haf
  iexact Hz

end Cert.TwoPhase

end
-- ==== Proof.Places.lean ====
module

public import proofs.«01_k».proof.Proof.Whole

/-! The buffers of a device, cut into slots and windows and put together again. -/

@[expose] public section

noncomputable section

namespace Cert.TwoPhase

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Cert.KernelIdeal Cert.KernelIdeal.Gen

variable {F : FTy → Type} [FloatOps F]

local notation "𝕄" => MT nD τ sig Unit (Elt F) ℕ UU ℕ

/-! ## Cutting and gathering -/

section Cut
variable {T : Type} [Fintype T] [DecidableEq T] {ℓ : Loc nD τ sig} {S : T → Finset (Idx ℓ)} (own : Idx ℓ → T)
  (h : ∀ t x, x ∈ S t ↔ own x = t)

include h in
theorem cut_disjoint : ∀ t ∈ (Finset.univ : Finset T), ∀ t' ∈ (Finset.univ : Finset T), t ≠ t' → Disjoint (S t) (S t') := by
  intro t _ t' _ hne
  rw [Finset.disjoint_left]
  intro x hx hx'
  exact hne (((h t x).mp hx).symm.trans ((h t' x).mp hx'))
include h in
theorem cut_all : (Finset.univ : Finset T).biUnion S = Finset.univ := by
  ext x
  simp only [Finset.mem_biUnion, Finset.mem_univ, true_and, iff_true]
  exact ⟨own x, (h _ x).mpr rfl⟩

omit [FloatOps F] in
include h in
/-- A buffer whose elements each belong to one part is its parts. -/
theorem cut (q : PosShare TreeShare) (f : Buf (Elt F) ℓ) :
    (ℓ ↦{q} f : sProp 𝕄) ⊢ bigSep Finset.univ fun t => ℓ ↦[S t]{q} f := by
  rw [← pointsTo_biUnion Finset.univ S (cut_disjoint own h), cut_all own h]

omit [FloatOps F] in
include h in
/-- The parts of a buffer, each at contents of its own, are the buffer at contents that agree with each. -/
theorem gather [Inhabited (Buf (Elt F) ℓ)] (fs : T → Buf (Elt F) ℓ) :
    (bigSep Finset.univ fun t => (ℓ ↦[S t]{fullShare} fs t : sProp 𝕄)) ⊢ iprop(∃ g, ⌜∀ t, ∀ x ∈ S t, g x = fs t x⌝ ∗ ℓ ↦{fullShare} g) := by
  have hj := pointsTo_biUnion_join (Ix := Unit) (Name := ℕ) (U := UU) (Lvl := ℕ) (q := fullShare) Finset.univ S fs default (cut_disjoint own h)
  rw [cut_all own h] at hj
  iintro H
  ihave H := hj $$ H
  icases H with ⟨%g, %hg, H⟩
  iexists g
  isplitr
  · ipureintro; exact fun t => hg t (Finset.mem_univ t)
  · iexact H
end Cut

omit [FloatOps F] in
theorem bigSep_two (Φ : Fin 2 → sProp 𝕄) : bigSep Finset.univ Φ = iprop(Φ 0 ∗ Φ 1) :=
  bigSep_univ_eq_bigSepL [0, 1] (by decide) (by decide) Φ
omit [FloatOps F] in
theorem bigSep_bool (Φ : Bool → sProp 𝕄) : bigSep Finset.univ Φ = iprop(Φ false ∗ Φ true) :=
  bigSep_univ_eq_bigSepL [false, true] (by decide) (by decide) Φ
omit [FloatOps F] in
/-- Two sets of sixteen. -/
theorem bigSep_sixteens (Φ : Bool × Fin 16 → sProp 𝕄) :
    bigSep Finset.univ Φ = iprop((bigSep Finset.univ fun i => Φ (false, i)) ∗ bigSep Finset.univ fun i => Φ (true, i)) := by
  rw [bigSep_univ_prod, bigSep_bool]

/-! ## Where an element belongs -/

/-- Device `d` or the device with the other half of the rows. -/
def side (d : Dev nD) (b : Bool) : Dev nD := bif b then py d else d
theorem py_mod (d : Dev nD) : (py d).val % 2 = 1 - d.val % 2 := by revert d; decide

/-- Row `n` is computed by which of the two, at which step. -/
def rowOwner (d : Dev nD) (n : ℕ) : Bool × Fin 16 := (decide (n / 2048 ≠ d.val % 2), ⟨n % 2048 / 128, by omega⟩)

theorem rowOwner_iff (d : Dev nD) (b : Bool) (i : Fin 16) (n : ℕ) (hn : n < 4096) :
    (2048 * ((side d b).val % 2) + 128 * i.val ≤ n ∧ n < 2048 * ((side d b).val % 2) + 128 * i.val + 128) ↔ rowOwner d n = (b, i) := by
  have hi := i.isLt
  have hd : d.val % 2 < 2 := Nat.mod_lt _ (by decide)
  unfold rowOwner
  rw [Prod.mk.injEq, Fin.ext_iff]
  cases b
  · rw [show side d false = d from rfl]
    simp only [ne_eq, decide_not, Bool.not_eq_false', decide_eq_true_eq]
    omega
  · rw [show side d true = py d from rfl, py_mod]
    simp only [ne_eq, decide_not, Bool.not_eq_true', decide_eq_false_iff_not]
    omega

/-- The slot of an element of the `A` scratch. -/
def slotOfA (x : S2x128x2048.Idx) : Fin 2 := ⟨(x 0).val, (x 0).isLt⟩
/-- The slot of an element of a scratch of two product blocks. -/
def slotOfP (x : S2x128x4096.Idx) : Fin 2 := ⟨(x 0).val, (x 0).isLt⟩
/-- The step whose product arrives at an element. -/
def stepOfR (x : S2048x4096.Idx) : Fin 16 := ⟨(x 0).val / 128, by have : (x 0).val < 2048 := (x 0).isLt; omega⟩
/-- Who computes an element of the rows of `A`. -/
def ownerA (d : Dev nD) (x : S4096x2048.Idx) : Bool × Fin 16 := rowOwner d (x 0).val
/-- Who computes an element of the result. -/
def ownerO (d : Dev nD) (x : S4096x4096.Idx) : Bool × Fin 16 := rowOwner d (x 0).val

theorem aWin_mem (d : Dev nD) (i : Fin 16) (x : S4096x2048.Idx) :
    x ∈ (aWin d i).view.set ↔ 2048 * (d.val % 2) + 128 * i.val ≤ (x 0).val ∧ (x 0).val < 2048 * (d.val % 2) + 128 * i.val + 128 := by
  refine (Finset.ext_iff.mp (View.set_slice_whole main_arg0 _) x).trans (Rect.mem_set_unit.trans ?_)
  rw [k0_off1_eq]
  constructor
  · intro h; exact h 0
  · intro h a
    match a with
    | 0 => exact h
    | 1 => exact ⟨Nat.zero_le _, by have := (x 1).isLt; exact lt_of_lt_of_eq this (Nat.zero_add 2048).symm⟩
theorem oWin_mem (d : Dev nD) (i : Fin 16) (x : S4096x4096.Idx) :
    x ∈ (oWin d i).view.set ↔ 2048 * (d.val % 2) + 128 * i.val ≤ (x 0).val ∧ (x 0).val < 2048 * (d.val % 2) + 128 * i.val + 128 := by
  refine (Finset.ext_iff.mp (View.set_slice_whole main_v1_0 _) x).trans (Rect.mem_set_unit.trans ?_)
  rw [k0_off2_eq]
  constructor
  · intro h; exact h 0
  · intro h a
    match a with
    | 0 => exact h
    | 1 => exact ⟨Nat.zero_le _, by have := (x 1).isLt; exact lt_of_lt_of_eq this (Nat.zero_add 4096).symm⟩
theorem rWin_mem (i : Fin 16) (x : S2048x4096.Idx) :
    x ∈ (rWin i).view.set ↔ stepOfR x = i := by
  refine (Finset.ext_iff.mp (View.set_slice_whole main_v1_1 _) x).trans (Rect.mem_set_unit.trans ?_)
  rw [Fin.ext_iff]
  constructor
  · intro h
    have h0 : 128 * i.val ≤ (x 0).val ∧ (x 0).val < 128 * i.val + 128 := h 0
    show (x 0).val / 128 = i.val
    omega
  · intro h a
    have h : (x 0).val / 128 = i.val := h
    match a with
    | 0 => show 128 * i.val ≤ (x 0).val ∧ (x 0).val < 128 * i.val + 128; omega
    | 1 => exact ⟨Nat.zero_le _, by have := (x 1).isLt; exact lt_of_lt_of_eq this (Nat.zero_add 4096).symm⟩
theorem rectA_mem (s : Fin 2) (x : S2x128x2048.Idx) : x ∈ (rectA s).set ↔ slotOfA x = s := by
  unfold rectA
  rw [Rect.mem_set_unit, Fin.ext_iff]
  constructor
  · intro h
    have h0 : s.val ≤ (x 0).val ∧ (x 0).val < s.val + 1 := h 0
    show (x 0).val = s.val
    omega
  · intro h a
    have h : (x 0).val = s.val := h
    match a with
    | 0 => show s.val ≤ (x 0).val ∧ (x 0).val < s.val + 1; omega
    | 1 => exact ⟨Nat.zero_le _, by have := (x 1).isLt; exact lt_of_lt_of_eq this (Nat.zero_add 128).symm⟩
    | 2 => exact ⟨Nat.zero_le _, by have := (x 2).isLt; exact lt_of_lt_of_eq this (Nat.zero_add 2048).symm⟩
theorem rectP_mem (s : Fin 2) (x : S2x128x4096.Idx) : x ∈ (rectP s).set ↔ slotOfP x = s := by
  unfold rectP
  rw [Rect.mem_set_unit, Fin.ext_iff]
  constructor
  · intro h
    have h0 : s.val ≤ (x 0).val ∧ (x 0).val < s.val + 1 := h 0
    show (x 0).val = s.val
    omega
  · intro h a
    have h : (x 0).val = s.val := h
    match a with
    | 0 => show s.val ≤ (x 0).val ∧ (x 0).val < s.val + 1; omega
    | 1 => exact ⟨Nat.zero_le _, by have := (x 1).isLt; exact lt_of_lt_of_eq this (Nat.zero_add 128).symm⟩
    | 2 => exact ⟨Nat.zero_le _, by have := (x 2).isLt; exact lt_of_lt_of_eq this (Nat.zero_add 4096).symm⟩
theorem aSlot_mem (s : Fin 2) (x : S2x128x2048.Idx) : x ∈ (aSlot s).view.set ↔ slotOfA x = s := by
  rw [show (aSlot s).view.set = _ from (View.set_reshape _ _).trans (View.set_slice_whole cc0_scratch0 (rectA s))]
  exact rectA_mem s x
theorem pSlot_mem (s : Fin 2) (x : S2x128x4096.Idx) : x ∈ (pSlot s).view.set ↔ slotOfP x = s := by
  rw [show (pSlot s).view.set = _ from (View.set_reshape _ _).trans (View.set_slice_whole cc0_scratch1 (rectP s))]
  exact rectP_mem s x
theorem ySlot_mem (s : Fin 2) (x : S2x128x4096.Idx) : x ∈ (ySlot s).view.set ↔ slotOfP x = s := by
  rw [show (ySlot s).view.set = _ from (View.set_reshape _ _).trans (View.set_slice_whole cc0_scratch3 (rectP s))]
  exact rectP_mem s x

theorem ownerA_iff (d : Dev nD) (p : Bool × Fin 16) (x : S4096x2048.Idx) : x ∈ (aWin (side d p.1) p.2).view.set ↔ ownerA d x = p :=
  (aWin_mem _ _ x).trans (rowOwner_iff d p.1 p.2 _ (x 0).isLt)
theorem ownerO_iff (d : Dev nD) (p : Bool × Fin 16) (x : S4096x4096.Idx) : x ∈ (oWin (side d p.1) p.2).view.set ↔ ownerO d x = p :=
  (oWin_mem _ _ x).trans (rowOwner_iff d p.1 p.2 _ (x 0).isLt)

/-! ## A device's buffers -/

variable (m : (ℓ : Loc nD τ sig) → Buf (Elt F) ℓ) (c : Dev nD)

/-- A buffer held whole at some contents. -/
def some₁ (b : Ref sig .tc) : sProp 𝕄 := iprop(∃ f : Buf (Elt F) ((c : Thread nD τ).loc b), ((c : Thread nD τ).loc b) ↦{fullShare} f)

omit [FloatOps F] in
theorem free_intro {sp : Space} {sh : Shape} {e : EltTy} (M : Memref sig .tc sp sh e) (f : Buf (Elt F) (M.view.loc (c : Thread nD τ))) :
    (M.view.loc (c : Thread nD τ) ↦[M.view.set]{fullShare} f : sProp 𝕄) ⊢ free c M := by
  unfold free
  iintro H
  iexists f; iexact H

omit [FloatOps F] in
theorem cutA : some₁ (F := F) c cc0_scratch0 ⊢ iprop(free (F := F) c (aSlot 0) ∗ free (F := F) c (aSlot 1)) := by
  unfold some₁
  iintro ⟨%f, H⟩
  ihave H := ((cut (ℓ := (c : Thread nD τ).loc cc0_scratch0) (S := fun s => (aSlot s).view.set) slotOfA aSlot_mem fullShare f).trans (Entails.of_eq (bigSep_two _))) $$ H
  icases H with ⟨H0, H1⟩
  unfold free
  isplitl [H0]
  · iexists f; iexact H0
  · iexists f; iexact H1
omit [FloatOps F] in
theorem cutP : some₁ (F := F) c cc0_scratch1 ⊢ iprop(free (F := F) c (pSlot 0) ∗ free (F := F) c (pSlot 1)) := by
  unfold some₁
  iintro ⟨%f, H⟩
  ihave H := ((cut (ℓ := (c : Thread nD τ).loc cc0_scratch1) (S := fun s => (pSlot s).view.set) slotOfP pSlot_mem fullShare f).trans (Entails.of_eq (bigSep_two _))) $$ H
  icases H with ⟨H0, H1⟩
  unfold free
  isplitl [H0]
  · iexists f; iexact H0
  · iexists f; iexact H1
omit [FloatOps F] in
theorem cutY : some₁ (F := F) c cc0_scratch3 ⊢ iprop(free (F := F) c (ySlot 0) ∗ free (F := F) c (ySlot 1)) := by
  unfold some₁
  iintro ⟨%f, H⟩
  ihave H := ((cut (ℓ := (c : Thread nD τ).loc cc0_scratch3) (S := fun s => (ySlot s).view.set) slotOfP ySlot_mem fullShare f).trans (Entails.of_eq (bigSep_two _))) $$ H
  icases H with ⟨H0, H1⟩
  unfold free
  isplitl [H0]
  · iexists f; iexact H0
  · iexists f; iexact H1

/-- Slots together are their buffer. -/
theorem joinSlots {b : Ref sig .tc} {S : Fin 2 → Finset (Idx ((c : Thread nD τ).loc b))} (own : Idx ((c : Thread nD τ).loc b) → Fin 2)
    (h : ∀ s x, x ∈ S s ↔ own x = s) :
    iprop((∃ f, (c : Thread nD τ).loc b ↦[S 0]{fullShare} f) ∗ (∃ f, (c : Thread nD τ).loc b ↦[S 1]{fullShare} f)) ⊢ some₁ (F := F) c b := by
  unfold some₁
  iintro ⟨⟨%f0, H0⟩, ⟨%f1, H1⟩⟩
  haveI : Inhabited (Buf (Elt F) ((c : Thread nD τ).loc b)) := ⟨f0⟩
  have hg := (Entails.of_eq (bigSep_two (F := F) fun s => (c : Thread nD τ).loc b ↦[S s]{fullShare} (if s = 0 then f0 else f1)).symm).trans
    (gather own h (fun s => if s = 0 then f0 else f1))
  rw [if_pos rfl, if_neg (by decide)] at hg
  ihave H := hg $$ [H0 H1]
  · isplitl [H0]; · iexact H0
    iexact H1
  icases H with ⟨%g, -, H⟩
  iexists g; iexact H

omit [FloatOps F] in
/-- Half the share of the rows of `A`, by steps, lent; the other half kept whole. -/
theorem cutRows (f : Buf (Elt F) ((c : Thread nD τ).loc main_arg0)) :
    ((c : Thread nD τ).loc main_arg0 ↦{fullShare} f : sProp 𝕄)
      ⊢ iprop(((c : Thread nD τ).loc main_arg0 ↦{fullShare.left} f)
        ∗ bigSep Finset.univ fun i => has c (aWin c i) fullShare.right ((aWin c i).view.read (Elt F) f)) := by
  iintro H
  ihave H := (pointsTo_share (PosShare.mem_left_op_right fullShare)).1 $$ H
  icases H with ⟨Hl, Hr⟩
  isplitl [Hl]; · iexact Hl
  ihave Hr := ((cut (ℓ := (c : Thread nD τ).loc main_arg0) (S := fun p : Bool × Fin 16 => (aWin (side c p.1) p.2).view.set) (ownerA c)
    (ownerA_iff c) fullShare.right f).trans (Entails.of_eq (bigSep_sixteens _))) $$ Hr
  icases Hr with ⟨Hr, -⟩
  have hm : (bigSep Finset.univ fun i => ((c : Thread nD τ).loc main_arg0 ↦[(aWin (side c false) i).view.set]{fullShare.right} f : sProp 𝕄))
      ⊢ bigSep Finset.univ fun i => has c (aWin c i) fullShare.right ((aWin c i).view.read (Elt F) f) :=
    bigSep_mono fun i _ => owns_intro (c : Thread nD τ) (aWin c i) fullShare.right f
  iapply hm $$ Hr

omit [FloatOps F] in
theorem cutR : some₁ (F := F) c main_v1_1 ⊢ bigSep Finset.univ fun i => free (F := F) c (rWin i) := by
  unfold some₁
  iintro ⟨%f, H⟩
  ihave H := (cut (ℓ := (c : Thread nD τ).loc main_v1_1) (S := fun i => (rWin i).view.set) stepOfR rWin_mem fullShare f) $$ H
  have hm : (bigSep Finset.univ fun i => ((c : Thread nD τ).loc main_v1_1 ↦[(rWin i).view.set]{fullShare} f : sProp 𝕄))
      ⊢ bigSep Finset.univ fun i => free (F := F) c (rWin i) :=
    bigSep_mono fun i _ => free_intro c (rWin i) f
  iapply hm $$ H

omit [FloatOps F] in
theorem cutO : some₁ (F := F) c main_v1_0
    ⊢ iprop((bigSep Finset.univ fun i => free (F := F) c (oWin c i)) ∗ bigSep Finset.univ fun i => free (F := F) c (oWin (py c) i)) := by
  unfold some₁
  iintro ⟨%f, H⟩
  ihave H := (cut (ℓ := (c : Thread nD τ).loc main_v1_0) (S := fun p : Bool × Fin 16 => (oWin (side c p.1) p.2).view.set) (ownerO c)
    (ownerO_iff c) fullShare f) $$ H
  have hm : (bigSep Finset.univ fun p : Bool × Fin 16 => ((c : Thread nD τ).loc main_v1_0 ↦[(oWin (side c p.1) p.2).view.set]{fullShare} f : sProp 𝕄))
      ⊢ bigSep Finset.univ fun p : Bool × Fin 16 => free (F := F) c (oWin (side c p.1) p.2) :=
    bigSep_mono fun p _ => free_intro c (oWin (side c p.1) p.2) f
  ihave H := (hm.trans (Entails.of_eq (bigSep_sixteens _))) $$ H
  iexact H

/-- Every row block of the result is read as the sum of the device and step it belongs to. -/
def Holds (g : Buf (Elt F) ((c : Thread nD τ).loc main_v1_0)) : Prop :=
  ∀ p : Bool × Fin 16, (oWin (side c p.1) p.2).view.read (Elt F) g = sumAt m (side c p.1) p.2

/-- The windows of the result, put together. -/
theorem joinO : iprop((bigSep Finset.univ fun i => has c (oWin c i) fullShare (sumAt m c i)) ∗ (bigSep Finset.univ fun i => gotY m c i))
    ⊢ iprop(∃ g, ⌜Holds m c g⌝ ∗ (c : Thread nD τ).loc main_v1_0 ↦{fullShare} g) := by
  have hall : iprop((bigSep Finset.univ fun i => has c (oWin c i) fullShare (sumAt m c i)) ∗ (bigSep Finset.univ fun i => gotY m c i))
      ⊢ bigSep Finset.univ fun p : Bool × Fin 16 => iprop(∃ f : Buf (Elt F) ((c : Thread nD τ).loc main_v1_0),
        ⌜(oWin (side c p.1) p.2).view.read (Elt F) f = sumAt m (side c p.1) p.2⌝ ∗ (c : Thread nD τ).loc main_v1_0 ↦[(oWin (side c p.1) p.2).view.set]{fullShare} f) :=
    Entails.of_eq (bigSep_sixteens (fun p => has c (oWin (side c p.1) p.2) fullShare (sumAt m (side c p.1) p.2))).symm
  iintro H
  ihave H := hall $$ H
  haveI : Nonempty (Buf (Elt F) ((c : Thread nD τ).loc main_v1_0)) := ⟨m _⟩
  ihave H := (BI.bigSep_exists_pi Finset.univ (fun (p : Bool × Fin 16) (f : Buf (Elt F) ((c : Thread nD τ).loc main_v1_0)) =>
    iprop(⌜(oWin (side c p.1) p.2).view.read (Elt F) f = sumAt m (side c p.1) p.2⌝ ∗ (c : Thread nD τ).loc main_v1_0 ↦[(oWin (side c p.1) p.2).view.set]{fullShare} f))) $$ H
  icases H with ⟨%fs, H⟩
  ihave H := (BI.bigSep_pure_sep Finset.univ (fun p : Bool × Fin 16 => (oWin (side c p.1) p.2).view.read (Elt F) (fs p) = sumAt m (side c p.1) p.2)
    (fun p => (c : Thread nD τ).loc main_v1_0 ↦[(oWin (side c p.1) p.2).view.set]{fullShare} fs p)) $$ H
  icases H with ⟨%hp, H⟩
  haveI : Inhabited (Buf (Elt F) ((c : Thread nD τ).loc main_v1_0)) := ⟨m _⟩
  ihave H := (gather (ℓ := (c : Thread nD τ).loc main_v1_0) (S := fun p : Bool × Fin 16 => (oWin (side c p.1) p.2).view.set) (ownerO c)
    (ownerO_iff c) fs) $$ H
  icases H with ⟨%g, %hg, H⟩
  iexists g
  isplitr
  · ipureintro
    intro p
    rw [← hp p (Finset.mem_univ p)]
    funext y
    exact congrArg (_root_.cast (congrArg (Elt F) (oWin (side c p.1) p.2).view.elt_eq)) (hg p _ (View.emb_mem_set _ y))
  · iexact H

end Cert.TwoPhase

end
-- ==== Proof.Deal.lean ====
module

public import proofs.«01_k».proof.Proof.Places
public import Idealize.ShloMosaic.Lib.Pipeline.CollectiveSegs

/-! What the launch deals out: the cells' invariants, the positions and tokens, and the credits. -/

@[expose] public section

noncomputable section

namespace Cert.TwoPhase

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Cert.KernelIdeal Cert.KernelIdeal.Gen

variable {F : FTy → Type} [FloatOps F]

local notation "𝕄" => MT nD τ sig Unit (Elt F) ℕ UU ℕ

/-! ## The semaphores -/

/-- The semaphores of a device's own transfers. -/
def ownTransfer : Fin 9 → DmaSem sig := ![tSem, aSem 0, aSem 1, oSem 0, oSem 1, sxSem 0, sxSem 1, sySem 0, sySem 1]
/-- The kernel's scoped semaphores: those of its own transfers and those of the arrivals. -/
def osem : Fin 9 ⊕ (Bool × Fin 16) → SemLoc sig
  | .inl k => .dma (ownTransfer k)
  | .inr p => csem (some p)

set_option maxRecDepth 4000 in
theorem ownSemFacts : Pipeline.OwnSemFacts cfg0.spec osem := by decide

omit [FloatOps F] in
/-- One thing for each tag: the barrier's and the arrivals'. -/
theorem bigSep_tags (Φ : Tag → sProp 𝕄) : bigSep Finset.univ Φ = iprop(Φ none ∗ bigSep Finset.univ fun p => Φ (some p)) := by
  have he : (Finset.univ : Finset Tag).erase none = Finset.univ.map Function.Embedding.some := by
    ext t
    cases t <;> simp
  refine (bigSep_univ_split (none : Tag)).trans ?_
  rw [he, bigSep_map]
  rfl

/-- The semaphores of a device's own transfers, none in flight. -/
def idles (c : Dev nD) : sProp 𝕄 := bigSep Finset.univ fun k : Fin 9 => idle (F := F) c (ownTransfer k)

omit [FloatOps F] in
theorem idles_eq (c : Dev nD) : idles (F := F) c
    = iprop(idle c tSem ∗ idle c (aSem 0) ∗ idle c (aSem 1) ∗ idle c (oSem 0) ∗ idle c (oSem 1) ∗ idle c (sxSem 0) ∗ idle c (sxSem 1)
        ∗ idle c (sySem 0) ∗ idle c (sySem 1)) := by
  unfold idles
  rw [bigSep_univ_eq_bigSepL [0, 1, 2, 3, 4, 5, 6, 7, 8] (by decide) (by decide)]
  rfl

omit [FloatOps F] in
theorem ownSems0_eq (c : Dev nD) : (Pipeline.ownSems0 osem c : sProp 𝕄) = iprop(idles c ∗ bigSep Finset.univ fun p => semVal (cell c (some p)) 0) := by
  unfold Pipeline.ownSems0 idles
  exact bigSep_univ_sum _
omit [FloatOps F] in
theorem unscopedSems0_eq (c : Dev nD) : (unscopedSems0 c : sProp 𝕄) = semVal (cell c none) 0 := by
  unfold unscopedSems0
  rw [bigSep_eq_bigSepL_of_eq [SemLoc.reg barS] (by decide) (by decide)]
  rfl

/-! ## The rounds at the launch -/

theorem cell_inj : Function.Injective fun p : Dev nD × Tag => cell p.1 p.2 := fun p q h =>
  Prod.ext (congrArg (fun g : GSem nD τ sig => g.1.1) h) (csem_inj (congrArg Prod.snd h))

/-- Every delivery to a device: the two signals of its barrier, and the arrivals. -/
def delivery (p : Dev nD × (Bool ⊕ (Bool × Fin 16))) : GSem nD τ sig × ℕ × Bool :=
  match p.2 with
  | .inl b => (cell p.1 none, 0, b)
  | .inr q => (cell p.1 (some q), 0, false)

theorem delivery_inj : Function.Injective delivery := by
  rintro ⟨c, j⟩ ⟨c', j'⟩ h
  have hcell := congrArg Prod.fst h
  have hb := congrArg (fun x => x.2.2) h
  rcases j with b | q <;> rcases j' with b' | q'
  · have h1 := @cell_inj (c, none) (c', none) hcell
    exact Prod.ext (show c = c' from congrArg Prod.fst h1) (congrArg Sum.inl hb)
  · exact absurd (congrArg Prod.snd (@cell_inj (c, none) (c', some q') hcell)) (by simp)
  · exact absurd (congrArg Prod.snd (@cell_inj (c, some q) (c', none) hcell)) (by simp)
  · have h1 := @cell_inj (c, some q) (c', some q') hcell
    exact Prod.ext (show c = c' from congrArg Prod.fst h1) (congrArg Sum.inr (Option.some.inj (congrArg Prod.snd h1)))

/-- Every cell. -/
def allCells : Finset (GSem nD τ sig) := Finset.univ.map ⟨_, cell_inj⟩
/-- Every delivery. -/
def allDeliveries : Finset (GSem nD τ sig × ℕ × Bool) := Finset.univ.map ⟨_, delivery_inj⟩

/-- The ghost state at the launch. -/
def u₀ : UU := (initOf (Pipeline.cells cfgs cellOf_inj) (Pipeline.launchToks cfgs cellOf_inj), (initOf allCells allDeliveries, 1))

/-- The tokens of the deliveries to device `c`. -/
def minted (c : Dev nD) : sProp 𝕄 :=
  iprop((dutyTok ER (cell c none) 0 false ∗ dutyTok ER (cell c none) 0 true)
    ∗ (bigSep Finset.univ fun i => dutyTok ER (cell c (some (false, i))) 0 false)
    ∗ bigSep Finset.univ fun i => dutyTok ER (cell c (some (true, i))) 0 false)
/-- The positions of device `c` at its cells. -/
def positions (c : Dev nD) : sProp 𝕄 := bigSep Finset.univ fun t : Tag => atPos ER (cell c t) 0 ∅ 0

variable (m : (ℓ : Loc nD τ sig) → Buf (Elt F) ℓ)

/-- What the launch deals device `c`. -/
def dealt (c : Dev nD) : sProp 𝕄 :=
  iprop((bigSep Finset.univ fun t : Tag => roundState ER (Rd m) (cell c t) 0)
    ∗ (bigSep Finset.univ fun t : Tag => reached ER (cell c t) 0) ∗ positions c ∗ minted c)

theorem fund_cells : BI.own (ER (initOf allCells allDeliveries)) ⊢ (|==> bigSep Finset.univ (dealt m) : sProp 𝕄) := by
  have hC (Φ : GSem nD τ sig → sProp 𝕄) : bigSep allCells Φ = bigSep Finset.univ fun c : Dev nD => bigSep Finset.univ fun t : Tag => Φ (cell c t) := by
    unfold allCells
    rw [bigSep_map, bigSep_univ_prod]
    rfl
  have hT : bigSep allDeliveries (fun x => (dutyTok ER x.1 x.2.1 x.2.2 : sProp 𝕄)) = bigSep Finset.univ fun c : Dev nD => minted c := by
    unfold allDeliveries
    rw [bigSep_map, bigSep_univ_prod]
    refine bigSep_congr fun c _ => (bigSep_univ_sum _).trans ?_
    unfold minted
    refine congrArg₂ _ ?_ ?_
    · exact bigSep_bool _
    · exact bigSep_sixteens _
  iintro H
  imod (Rounds.fund ER (Rd m) allCells allDeliveries) $$ H with ⟨Hs, Hr, Ha, Ht⟩
  imodintro
  ihave Hs := (Entails.of_eq (hC fun g => roundState ER (Rd m) g 0)) $$ Hs
  ihave Hr := (Entails.of_eq (hC fun g => reached ER g 0)) $$ Hr
  ihave Ha := (Entails.of_eq (hC fun g => atPos ER g 0 ∅ 0)) $$ Ha
  ihave Ht := (Entails.of_eq hT) $$ Ht
  unfold dealt positions
  simp only [bigSep_sep']
  isplitl [Hs]; · iexact Hs
  isplitl [Hr]; · iexact Hr
  isplitl [Ha]; · iexact Ha
  iexact Ht

theorem fund_all : (ownU u₀ : sProp 𝕄)
    ⊢ |={Set.univ}=> iprop(BI.own (EP (initOf (Pipeline.cells cfgs cellOf_inj) (Pipeline.launchToks cfgs cellOf_inj))) ∗ bigSep Finset.univ (dealt m)) := by
  have hcells := fund_cells m
  unfold ER at hcells
  unfold u₀
  iintro Hu
  ihave H := (ownU_pair _ _) $$ Hu
  icases H with ⟨HP, HC⟩
  ihave H := (own_pair_emb _ _ _) $$ HC
  icases H with ⟨HC, -⟩
  imod hcells $$ HC with HG
  imodintro
  isplitl [HP]; · iexact HP
  iexact HG

/-! ## The invariants -/

/-- A device's cells under invariants, its semaphores idle. -/
theorem open_cells (c : Dev nD) :
    iprop(Pipeline.ownSems0 osem c ∗ unscopedSems0 c ∗ dealt m c)
      ⊢ |={Set.univ}=> iprop((bigSep Finset.univ fun t : Tag => iprop(∃ κ : ℕ, cellInv ER (Rd m) κ (cell c t)))
          ∗ (bigSep Finset.univ fun t : Tag => reached ER (cell c t) 0) ∗ positions c ∗ minted c ∗ idles c) := by
  have halloc : iprop((bigSep Finset.univ fun t : Tag => semVal (cell c t) 0) ∗ bigSep Finset.univ fun t : Tag => roundState ER (Rd m) (cell c t) 0)
      ⊢ (|={Set.univ}=> bigSep Finset.univ fun t : Tag => iprop(∃ κ : ℕ, cellInv ER (Rd m) κ (cell c t)) : sProp 𝕄) := by
    rw [← bigSep_sep']
    exact (bigSep_mono fun t _ => (Rounds.body_intro ER (Rd m) (cell c t)).trans inv_alloc).trans (bigSep_fupd _ _)
  unfold dealt
  rw [ownSems0_eq, unscopedSems0_eq]
  rw [bigSep_tags fun t => semVal (cell c t) 0] at halloc
  iintro ⟨⟨Hi, Hv⟩, Hb, Hs, Hr, Ha, Ht⟩
  imod halloc $$ [Hv Hb Hs] with HI
  · isplitr [Hs]
    · isplitl [Hb]; · iexact Hb
      iexact Hv
    iexact Hs
  imodintro
  isplitl [HI]; · iexact HI
  isplitl [Hr]; · iexact Hr
  isplitl [Ha]; · iexact Ha
  isplitl [Ht]; · iexact Ht
  iexact Hi

/-- The invariants and rounds every device knows. -/
def cells (K : Dev nD × Tag → ℕ) : sProp 𝕄 :=
  iprop((bigSep Finset.univ fun p : Dev nD × Tag => cellInv ER (Rd m) (K p) (cell p.1 p.2))
    ∗ bigSep Finset.univ fun p : Dev nD × Tag => reached ER (cell p.1 p.2) 0)

instance cells_persistent (K : Dev nD × Tag → ℕ) : BI.Persistent (cells m K) := by unfold cells; infer_instance

/-- What device `c` has of the ghost state when it starts. -/
def started (c : Dev nD) : sProp 𝕄 := iprop(∃ K, cells m K ∗ tokens c ∗ idles c)

omit [FloatOps F] in
/-- The tokens go to the devices that deliver. -/
theorem minted_tokens : iprop((bigSep Finset.univ fun c : Dev nD => positions c) ∗ bigSep Finset.univ fun c : Dev nD => minted c)
    ⊢ bigSep Finset.univ fun c : Dev nD => (tokens c : sProp 𝕄) := by
  unfold positions minted tokens
  simp only [bigSep_tags, bigSep_sixteens, bigSep_sep']
  rw [bigSep_univ_equiv flipX (fun c : Dev nD => (dutyTok ER (cell c none) 0 false : sProp 𝕄)),
    bigSep_univ_equiv flipY (fun c : Dev nD => (dutyTok ER (cell c none) 0 true : sProp 𝕄)),
    bigSep_univ_equiv flipX (fun c : Dev nD => bigSep Finset.univ fun i => (dutyTok ER (cell c (some (false, i))) 0 false : sProp 𝕄)),
    bigSep_univ_equiv flipY (fun c : Dev nD => bigSep Finset.univ fun i => (dutyTok ER (cell c (some (true, i))) 0 false : sProp 𝕄))]
  iintro ⟨Ha, ⟨H1, H2⟩, H3, H4⟩
  isplitl [Ha]; · iexact Ha
  isplitl [H1]; · iexact H1
  isplitl [H2]; · iexact H2
  isplitl [H3]; · iexact H3
  iexact H4

theorem started_intro (K : Dev nD × Tag → ℕ) (c : Dev nD) : iprop(cells m K ∗ iprop(tokens c ∗ idles c)) ⊢ started m c := by
  unfold started
  iintro H
  iexists K
  iexact H

theorem start_all : (bigSep Finset.univ fun c : Dev nD => iprop((bigSep Finset.univ fun t : Tag => iprop(∃ κ : ℕ, cellInv ER (Rd m) κ (cell c t)))
      ∗ (bigSep Finset.univ fun t : Tag => reached ER (cell c t) 0) ∗ positions c ∗ minted c ∗ idles c))
    ⊢ (bigSep Finset.univ (started m) : sProp 𝕄) := by
  simp only [bigSep_sep']
  rw [← bigSep_univ_prod (fun p : Dev nD × Tag => iprop(∃ κ : ℕ, cellInv ER (Rd m) κ (cell p.1 p.2))),
    ← bigSep_univ_prod (fun p : Dev nD × Tag => (reached ER (cell p.1 p.2) 0 : sProp 𝕄))]
  have heach (K : Dev nD × Tag → ℕ) : iprop(cells m K ∗ bigSep Finset.univ fun c : Dev nD => iprop(tokens c ∗ idles c)) ⊢ bigSep Finset.univ (started m) :=
    (sep_mono_left (BI.bigSep_of_persistent Finset.univ (cells m K))).trans
      ((Entails.of_eq (bigSep_sep' _ _ _).symm).trans (bigSep_mono fun c _ => started_intro m K c))
  iintro ⟨HI, #HR, Ha, Ht, Hi⟩
  ihave HK := (BI.bigSep_exists_pi Finset.univ (fun (p : Dev nD × Tag) (κ : ℕ) => (cellInv ER (Rd m) κ (cell p.1 p.2) : sProp 𝕄))) $$ HI
  icases HK with ⟨%K, #HI⟩
  ihave Ht := (minted_tokens (F := F)) $$ [Ha Ht]
  · isplitl [Ha]; · iexact Ha
    iexact Ht
  iapply (heach K)
  isplitr
  · unfold cells
    isplitl; · iexact HI
    iexact HR
  rw [bigSep_sep']
  isplitl [Ht]; · iexact Ht
  iexact Hi

theorem deal_all : (bigSep Finset.univ fun c : Dev nD => iprop(Pipeline.ownSems0 osem c ∗ unscopedSems0 c ∗ dealt m c))
    ⊢ (|={Set.univ}=> bigSep Finset.univ (started m) : sProp 𝕄) :=
  ((bigSep_mono fun c _ => open_cells m c).trans (bigSep_fupd _ _)).trans (BI.fupd_mono (start_all m))

/-! ## The credits -/

omit [FloatOps F] in
theorem credits_intro (c : Dev nD) : (Pipeline.launchCred owed₀ c : sProp 𝕄) ⊢ credits c := by
  have hsum (f : Dev nD ≃ Dev nD) (hf : ∀ d, f (f d) = d) (b : Bool) :
      (Pipeline.launchCred (fun d => ∑ k ∈ Finset.univ.filter fun k : Fin 16 => 0 ≤ k.val, tallyAt (cell (f d) (some (b, k))) () NP) c : sProp 𝕄)
        ⊢ bigSep Finset.univ fun i => cred (tallyAt (cell c (some (b, i))) () NP) := by
    rw [Pipeline.launchCred_sum _ (fun (k : Fin 16) d => tallyAt (cell (f d) (some (b, k))) () NP), Finset.filter_true_of_mem fun i _ => Nat.zero_le _]
    exact bigSep_mono fun i _ => Pipeline.launchCred_tallyAt (csem (some (b, i))) f f hf hf () NP c
  have hX : (Pipeline.launchCred (fun d => owedX d 0) c : sProp 𝕄) ⊢ _ := hsum flipX px_px false
  have hY : (Pipeline.launchCred (fun d => owedY d 0) c : sProp 𝕄) ⊢ _ := hsum flipY py_py true
  have hbx : (Pipeline.launchCred (fun d => tallyAt (cell (px d) none) () 1) c : sProp 𝕄) ⊢ cred (tallyAt (cell c none) () 1) :=
    Pipeline.launchCred_tallyAt (csem none) px px px_px px_px () 1 c
  have hby : (Pipeline.launchCred (fun d => tallyAt (cell (py d) none) () 1) c : sProp 𝕄) ⊢ cred (tallyAt (cell c none) () 1) :=
    Pipeline.launchCred_tallyAt (csem none) py py py_py py_py () 1 c
  have hsplit : (Pipeline.launchCred owed₀ c : sProp 𝕄)
      = iprop(((Pipeline.launchCred (fun d => owedX d 0) c ∗ Pipeline.launchCred (fun d => owedY d 0) c)
          ∗ Pipeline.launchCred (fun d => tallyAt (cell (py d) none) () 1) c) ∗ Pipeline.launchCred (fun d => tallyAt (cell (px d) none) () 1) c) := by
    rw [← Pipeline.launchCred_add, ← Pipeline.launchCred_add, ← Pipeline.launchCred_add]
    rfl
  have hbar : iprop(cred (tallyAt (cell c none) () 1) ∗ cred (tallyAt (cell c none) () 1)) ⊢ (cred (tallyAt (cell c none) () 2) : sProp 𝕄) := by
    rw [show (2 : ℕ) = 1 + 1 from rfl, ← tallyAt_add]
    exact (cred_add _ _).2
  rw [hsplit]
  unfold credits
  iintro ⟨⟨⟨H1, H2⟩, H3⟩, H4⟩
  isplitl [H3 H4]
  · iapply hbar
    isplitl [H3]; · iapply hby $$ H3
    iapply hbx $$ H4
  isplitl [H1]; · iapply hX $$ H1
  iapply hY $$ H2

end Cert.TwoPhase

end
-- ==== Proof.Launch.lean ====
module

public import proofs.«01_k».proof.Proof.Deal

/-! The run of the whole program. -/

@[expose] public section

noncomputable section

namespace Cert.TwoPhase

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat BodyObligation)
open Cert.KernelIdeal Cert.KernelIdeal.Gen

variable {F : FTy → Type} [FloatOps F]

local notation "𝕄" => MT nD τ sig Unit (Elt F) ℕ UU ℕ

variable (m : (ℓ : Loc nD τ sig) → Buf (Elt F) ℓ)

/-! ## The memory around the body -/

section Memory

variable (c : Dev nD)

omit [FloatOps F] in
/-- A whole buffer at some contents. -/
theorem some_free (b : Ref sig .tc) : some₁ (F := F) c b = free c (Memref.whole b) := by
  unfold some₁ free
  simp only [Memref.view_whole, View.set_whole]

/-- What a device has before its body but for the scratch. -/
def start : sProp 𝕄 :=
  iprop(started m c ∗ levAts L lv ∗ credits c ∗ ((c : Thread nD τ).loc main_arg0 ↦{fullShare} m ((c : Thread nD τ).loc main_arg0))
    ∗ some₁ (F := F) c main_v1_0 ∗ some₁ (F := F) c main_v1_1)
/-- The scratch at some contents. -/
def scratch : sProp 𝕄 :=
  iprop(some₁ (F := F) c cc0_scratch0 ∗ some₁ (F := F) c cc0_scratch1 ∗ some₁ (F := F) c cc0_scratch2 ∗ some₁ (F := F) c cc0_scratch3)
/-- The half of `A` that is lent to nobody. -/
def kept : sProp 𝕄 := (c : Thread nD τ).loc main_arg0 ↦{fullShare.left} m ((c : Thread nD τ).loc main_arg0)
/-- What a device has in the end to answer for: `A` as it was, the result, the barrier's semaphore at zero. -/
def answer : sProp 𝕄 :=
  iprop(kept m c ∗ (∃ g, ⌜Holds m c g⌝ ∗ (c : Thread nD τ).loc main_v1_0 ↦{fullShare} g) ∗ unscopedSems0 c)
/-- What it has after its body. -/
def finish : sProp 𝕄 := iprop(answer m c ∗ Pipeline.ownSems0 osem c ∗ scratch (F := F) c)

/-- The slots and windows a device starts with. -/
theorem places_intro :
    iprop(idles c ∗ ((c : Thread nD τ).loc main_arg0 ↦{fullShare} m ((c : Thread nD τ).loc main_arg0))
        ∗ some₁ (F := F) c main_v1_0 ∗ some₁ (F := F) c main_v1_1 ∗ scratch (F := F) c)
      ⊢ iprop(places m c ∗ kept m c) := by
  unfold places scratch kept freeA freeP freeY freeT
  rw [idles_eq, some_free c cc0_scratch2]
  iintro ⟨⟨Ht, Ha0, Ha1, Ho0, Ho1, Hx0, Hx1, Hy0, Hy1⟩, HA, HO, HR, H0, H1, H2, H3⟩
  ihave HA := (cutRows c _) $$ HA
  ihave HO := (cutO c) $$ HO
  ihave HR := (cutR c) $$ HR
  ihave H0 := (cutA c) $$ H0
  ihave H1 := (cutP c) $$ H1
  ihave H3 := (cutY c) $$ H3
  icases HA with ⟨Hk, HA⟩
  icases HO with ⟨HOc, HOy⟩
  icases H0 with ⟨HA0, HA1⟩
  icases H1 with ⟨HP0, HP1⟩
  icases H3 with ⟨HY0, HY1⟩
  isplitr [Hk]
  · isplitl [HA0 Ha0]
    · isplitl [HA0]; · iexact HA0
      iexact Ha0
    isplitl [HA1 Ha1]
    · isplitl [HA1]; · iexact HA1
      iexact Ha1
    isplitl [HP0 Hx0]
    · isplitl [HP0]; · iexact HP0
      iexact Hx0
    isplitl [HP1 Hx1]
    · isplitl [HP1]; · iexact HP1
      iexact Hx1
    isplitl [HY0 Hy0 Ho0]
    · isplitl [HY0]; · iexact HY0
      isplitl [Hy0]; · iexact Hy0
      iexact Ho0
    isplitl [HY1 Hy1 Ho1]
    · isplitl [HY1]; · iexact HY1
      isplitl [Hy1]; · iexact Hy1
      iexact Ho1
    isplitl [H2 Ht]
    · isplitl [H2]; · iexact H2
      iexact Ht
    isplitl [HA]; · iexact HA
    isplitl [HR]; · iexact HR
    isplitl [HOy]; · iexact HOy
    iexact HOc
  iexact Hk

theorem joinA : iprop(free (F := F) c (aSlot 0) ∗ free (F := F) c (aSlot 1)) ⊢ some₁ (F := F) c cc0_scratch0 :=
  joinSlots c (b := cc0_scratch0) (S := fun s => (aSlot s).view.set) slotOfA aSlot_mem
theorem joinP : iprop(free (F := F) c (pSlot 0) ∗ free (F := F) c (pSlot 1)) ⊢ some₁ (F := F) c cc0_scratch1 :=
  joinSlots c (b := cc0_scratch1) (S := fun s => (pSlot s).view.set) slotOfP pSlot_mem
theorem joinY : iprop(free (F := F) c (ySlot 0) ∗ free (F := F) c (ySlot 1)) ⊢ some₁ (F := F) c cc0_scratch3 :=
  joinSlots c (b := cc0_scratch3) (S := fun s => (ySlot s).view.set) slotOfP ySlot_mem

/-- What a device is left with, put together. -/
theorem finish_intro :
    iprop(after m c ∗ semVal (cell c none) 0 ∗ kept m c)
      ⊢ iprop(finish m c ∗ has c (Memref.whole cc0_stg0_0) fullShare (bStg m c) ∗ owing c 0) := by
  unfold after finish answer scratch freeA freeP freeY freeT
  rw [ownSems0_eq, unscopedSems0_eq, idles_eq, bigSep_sixteens, some_free c cc0_scratch2]
  iintro ⟨⟨⟨HA0, Ha0⟩, ⟨HA1, Ha1⟩, ⟨HP0, Hx0⟩, ⟨HP1, Hx1⟩, ⟨HY0, Hy0, Ho0⟩, ⟨HY1, Hy1, Ho1⟩, ⟨H2, Ht⟩, Hrx, Hry, HO, HOy, HB, Hw⟩, Hz, Hk⟩
  isplitr [HB Hw]
  · isplitl [Hk HO HOy Hz]
    · isplitl [Hk]; · iexact Hk
      isplitl [HO HOy]
      · iapply (joinO m c)
        isplitl [HO]; · iexact HO
        iexact HOy
      iexact Hz
    isplitl [Ht Ha0 Ha1 Ho0 Ho1 Hx0 Hx1 Hy0 Hy1 Hrx Hry]
    · isplitr [Hrx Hry]
      · isplitl [Ht]; · iexact Ht
        isplitl [Ha0]; · iexact Ha0
        isplitl [Ha1]; · iexact Ha1
        isplitl [Ho0]; · iexact Ho0
        isplitl [Ho1]; · iexact Ho1
        isplitl [Hx0]; · iexact Hx0
        isplitl [Hx1]; · iexact Hx1
        isplitl [Hy0]; · iexact Hy0
        iexact Hy1
      isplitl [Hrx]; · iexact Hrx
      iexact Hry
    isplitl [HA0 HA1]
    · iapply (joinA c)
      isplitl [HA0]; · iexact HA0
      iexact HA1
    isplitl [HP0 HP1]
    · iapply (joinP c)
      isplitl [HP0]; · iexact HP0
      iexact HP1
    isplitl [H2]; · iexact H2
    iapply (joinY c)
    isplitl [HY0]; · iexact HY0
    iexact HY1
  isplitl [HB]; · iexact HB
  iexact Hw

end Memory

/-! ## The data of the one point -/

/-- What the pipeline is told: `B` is staged whole, the devices owe their deliveries before the body and nothing after. -/
def dats (_ : Fin 1) (c : Dev nD) : Dat τ (Elt F) Unit ℕ UU ℕ cfg0 c where
  A w := m ((cfg0.win w).arr.view.loc (c : Thread nD τ))
  after w _ := match w with
    | ⟨0, _⟩ => bStg m c
  Φ t := match t with
    | ⟨0, _⟩ => iprop(start m c ∗ scratch (F := F) c)
    | ⟨_ + 1, _⟩ => finish m c
  q _ := fullShare
  owed t := match t with
    | ⟨0, _⟩ => owed₀ c
    | ⟨_ + 1, _⟩ => 0

theorem share_eq (c : Dev nD) (w : Fin cfg0.W) : (dats m 0 c).share w = fullShare := by
  unfold Dat.share
  split <;> rfl

/-- The body as the pipeline runs it. -/
theorem body_point (c : Dev nD) :
    iprop(iprop(start m c ∗ scratch (F := F) c) ∗ (dats m 0 c).owesAt () (t0_0.castSucc : Fin (cfg0.N + 1))
        ∗ ∃ d, has c (Memref.whole cc0_stg0_0) fullShare ((dats m 0 c).before (0 : Fin 1) t0_0 d))
      ⊢ run c body fun _ => iprop(finish m c ∗ (dats m 0 c).owesAt () (t0_0.succ : Fin (cfg0.N + 1)) ∗ has c (Memref.whole cc0_stg0_0) fullShare (bStg m c)) := by
  have hbefore (d) : (dats m 0 c).before (0 : Fin 1) t0_0 d = bStg m c := by
    unfold Dat.before
    rw [if_pos (show (cfg0.win (0 : Fin 1)).fetch t0_0 = true from rfl)]
    rfl
  simp only [hbefore]
  unfold Dat.owesAt Pipeline.owesWithin start started
  rw [show (dats m 0 c).owed t0_0.castSucc = owed₀ c from rfl, show (dats m 0 c).owed t0_0.succ = 0 from rfl]
  iintro ⟨⟨⟨⟨%K, #Hc, Ht, Hi⟩, #Hl, Hcr, HA, HO, HR⟩, Hs⟩, ⟨%W, -, Hw⟩, ⟨%d, HB⟩⟩
  ihave Hp := (places_intro m c) $$ [Hi HA HO HR Hs]
  · isplitl [Hi]; · iexact Hi
    isplitl [HA]; · iexact HA
    isplitl [HO]; · iexact HO
    isplitl [HR]; · iexact HR
    iexact Hs
  icases Hp with ⟨Hp, Hk⟩
  iapply (body_spec m K c) $$ [Hp Ht Hcr HB Hw]
  · isplitr
    · unfold know
      isplitr; · iexact Hl
      unfold cells
      iexact Hc
    isplitl [Hp]; · iexact Hp
    isplitl [Ht]; · iexact Ht
    isplitl [Hcr]; · iexact Hcr
    isplitl [HB]; · iexact HB
    unfold owing
    iexists W; iexact Hw
  iintro ⟨Haf, Hz⟩
  ihave H := (finish_intro m c) $$ [Haf Hz Hk]
  · isplitl [Haf]; · iexact Haf
    isplitl [Hz]; · iexact Hz
    iexact Hk
  unfold owing
  icases H with ⟨Hf, HB, ⟨%W', Hw⟩⟩
  isplitl [Hf]; · iexact Hf
  isplitl [Hw]
  · iexists W'
    isplitr; · ipureintro; exact fun _ _ => Or.inl trivial
    iexact Hw
  iexact HB

/-- The pipeline's call of the body at its point. -/
theorem called_eq : defs₀ (F := F) .tc cfg0.body (cfg0.bodyArgs t0_0 (cfg0.slots t0_0)) = body := body_eq t0_0

theorem run_called (c : Dev nD) (Q : PUnit → sProp 𝕄) :
    run c body Q = run c (defs₀ (F := F) .tc cfg0.body (cfg0.bodyArgs t0_0 (cfg0.slots t0_0))) Q :=
  congrArg (fun p => run c p Q) called_eq.symm

theorem body_obligation (c : Dev nD) : BodyObligation (dats (F := F) m 0 c) (defs₀ (F := F)) 𝒱₀ () Set.univ := fun t => by
  rw [fin_N0 t]
  rw [bigSep_W0, bigSep_W0]
  have h := body_point m c
  rw [run_called] at h
  unfold run at h
  dsimp only
  generalize (defs₀ (F := F) .tc cfg0.body (cfg0.bodyArgs t0_0 (cfg0.slots t0_0))) = p at *
  exact h

/-! ## The launch -/

theorem owed₀_pos {c : Dev nD} {g : GSem nD τ sig} {u : Unit} (h : 0 < owed₀ c g u) : ∃ d t, g = cell d t := by
  unfold owed₀ at h
  rw [Pi.add_apply, Finsupp.add_apply, Pi.add_apply, Finsupp.add_apply, tallyAt_apply, tallyAt_apply] at h
  by_contra hn
  have hx : ¬ 0 < (owedX c 0 + owedY c 0) g u := fun h0 => by
    rcases owed_pos h0 with ⟨k, -, hg⟩ | ⟨k, hg⟩
    · exact hn ⟨px c, some (false, k), hg⟩
    · exact hn ⟨py c, some (true, k), hg⟩
  rw [if_neg fun he => hn ⟨py c, none, he.1⟩, if_neg fun he => hn ⟨px c, none, he.1⟩, Nat.add_zero] at h
  exact hx h

theorem levelOf_pos (t : Tag) : 0 < levelOf (some t) := by
  match t with
  | none => exact Nat.one_pos
  | some (false, i) => exact Nat.lt_of_lt_of_le Nat.two_pos (Nat.le_add_right 2 i.val)
  | some (true, _) => exact (by decide : 0 < 100)

omit [FloatOps F] in
/-- A device may wait for `B` to be staged. -/
theorem mayWait_staging (c : Dev nD) (sm : SemLoc sig) (hs : tagOf sm = none) :
    (levAts L lv : sProp 𝕄) ⊢ MayWait (c : Thread nD τ) sm () (owed₀ c) := by
  refine MayOwe.of_cut (L := L) (lev := lv) 0 ?_ ?_ ?_ ?_
  · intro p hp
    rw [Finset.mem_singleton.mp hp, L_tc]; exact Finset.mem_singleton_self _
  · intro g u hg
    obtain ⟨d, t, rfl⟩ := owed₀_pos hg
    rw [L_tc]; exact Finset.mem_singleton_self _
  · intro p hp
    rw [Finset.mem_singleton.mp hp]
    exact le_of_eq (congrArg levelOf hs)
  · intro g u hg
    obtain ⟨d, t, rfl⟩ := owed₀_pos hg
    rw [lv_cell]
    exact levelOf_pos t

theorem waits (c : Dev nD) : (levAts L lv : sProp 𝕄) ⊢ Pipeline.cellsWaits cfgs (dats m) () 0 c :=
  Pipeline.cellsWaits_intro cfgs (dats m) () 0 c fun w s t => by
    rcases t with ⟨_ | _, ht⟩
    · exact mayWait_staging c _ (by fin_cases w; fin_cases s; decide)
    · show _ ⊢ MayWait _ _ () 0
      rw [MayWait_zero]
      iintro -
      iempintro

variable (ρ : Dev nD → PrngReg)

theorem start_intro (c : Dev nD) :
    iprop(Pipeline.unscopedRestP Pipeline.Prefetch.none cfg0.spec c (fun b => m ((c : Thread nD τ).loc b)) ∗ levAts L lv
        ∗ Pipeline.launchCred owed₀ c ∗ prngReg c (ρ c) ∗ started m c)
      ⊢ |={Set.univ}=> iprop(start m c ∗ emp) := by
  rw [Pipeline.unscopedRestP_none, unscopedRest0_eq]
  unfold start some₁
  iintro ⟨⟨HA, HO, HR⟩, Hl, Hcr, -, Hst⟩
  ihave Hcr := (credits_intro (F := F) c) $$ Hcr
  imodintro
  isplitl
  · isplitl [Hst]; · iexact Hst
    isplitl [Hl]; · iexact Hl
    isplitl [Hcr]; · iexact Hcr
    isplitl [HA]; · iexact HA
    isplitl [HO]; · iexists _; iexact HO
    iexists _; iexact HR
  iempintro

theorem enter (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = iprop(start m c ∗ scratch (F := F) c) from rfl, scopedRest0_eq]
  iintro ⟨Hs, -, Hr⟩
  isplitl [Hs]; · iexact Hs
  unfold scratch some₁
  iexact Hr

theorem leave (c : Dev nD) :
    (dats m 0 c).Φ (Fin.last cfg0.N) ⊢ iprop(answer m c ∗ Pipeline.ownSems0 osem c ∗ Pipeline.scopedRest cfg0.spec c) := by
  rw [show (dats m 0 c).Φ (Fin.last cfg0.N) = finish m c from rfl, scopedRest0_eq]
  unfold finish scratch some₁
  exact Entails.refl _

/-- What the final memory of device `c` is known to hold, beside `B`. -/
def Answered (c : Dev nD) (s : MemSt nD τ sig (Elt F)) : Prop :=
  (s.mem ((c : Thread nD τ).loc main_arg0) = m ((c : Thread nD τ).loc main_arg0) ∧ Holds m c (s.mem ((c : Thread nD τ).loc main_v1_0)))
    ∧ ∀ sm : SemLoc sig, sm.isScoped .tc = false → s.sem ((c : Thread nD τ), sm) = 0

theorem answered (c : Dev nD) (s' : Phys nD τ sig (Elt F)) :
    iprop(answer m c ∗ emp ∗ SI s') ⊢ |={Set.univ}=> iprop(⌜Answered m c s'.mem⌝ ∗ SI s') := by
  unfold answer kept Answered
  iintro ⟨⟨HA, ⟨%g, %hg, HO⟩, Hu⟩, -, HS⟩
  icombine HS HA gives %hA
  icombine HS HO gives %hO
  imod (Pipeline.unscopedSems0_read (X := unscopedSems0 c) (c := c) fupd_intro s') $$ [Hu HS] with ⟨%hz, HS⟩
  · isplitl [Hu]; · iexact Hu
    iexact HS
  imodintro
  isplitr
  · ipureintro
    refine ⟨⟨Buf.eq_of_forall_mem_univ hA, ?_⟩, hz⟩
    rw [show s'.mem.mem ((c : Thread nD τ).loc main_v1_0) = g from Buf.eq_of_forall_mem_univ hO]
    exact hg
  iexact HS

/-- The final state: the inputs as they were, the result's blocks as computed, every counter at zero. -/
def Final (r : PUnit × MemSt nD τ sig (Elt F)) : Prop :=
  (∀ c : Dev nD, r.2.mem ((c : Thread nD τ).loc main_arg0) = m ((c : Thread nD τ).loc main_arg0)
      ∧ r.2.mem ((c : Thread nD τ).loc main_arg1) = m ((c : Thread nD τ).loc main_arg1)
      ∧ Holds m c (r.2.mem ((c : Thread nD τ).loc main_v1_0)))
    ∧ r.2.sem = fun _ => 0

set_option maxRecDepth 8000 in
/-- Every execution ends, in the final state. -/
theorem run_main : θ_run defs (onTc (τ := τ) (main (F := F))) ⟨m, fun _ => 0, ρ⟩ (Final m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (body_obligation m c).loose) (hne := block_pos0) (harr := arr_whole0) (hstage := stage_whole0) (hshare := share_eq m)
    (hdistinct := winFacts0.arr_inj)
    (O₀ := owed₀) (howed₀ := fun _ => rfl) (howedN := fun _ => rfl)
    (L := L) (lv := lv) (hL := fun _ h => if_neg h) (hwaits := waits m)
    (G := dealt m) (G' := started m) (u₀ := u₀) (hu₀ := fund_all m) (hglob := deal_all m)
    (hA := fun _ _ => rfl) (hpf := fun _ k => k.elim0)
    (X := start m) (Y := answer m) (Z := fun _ => iprop(emp))
    (hX := start_intro m ρ) (hin := enter m) (hout := leave m)
    (QY := Answered m) (hY := answered m)
    (hQ := fun s h hs => ⟨fun c => ⟨(h c).2.2.1.1, ((h c).1 (0 : Fin 1)).trans ((dats m 0 c).arrAt_in (0 : Fin 1) rfl _), (h c).2.2.1.2⟩,
      sem_eq_zero hs fun c => (h c).2.2.2⟩)

end Cert.TwoPhase

end
-- ==== Proof.Value.lean ====
module

public import proofs.«01_k».proof.Proof.Launch
public import proofs.«01_k».proof.Proof.Gen.ReferenceIdeal.Run
public import Idealize.ShloMosaic.Lib.MatmulPlain
public import Idealize.ShloMosaic.Lib.StackMember
public import Idealize.ShloMosaic.Lib.Layout

/-! What the result holds, over the extended reals.

Each entry of the result is a partial product over one half of the inner dimension plus the partial
product over the other half, which is the entry of the whole product. -/

@[expose] public section

noncomputable section

namespace Cert.TwoPhase

open Idealize.ShloMosaic Idealize.ShloMosaic.TcCoe Idealize.ShloMosaic.ValueIdx
open Idealize.SL.Sem
open Cert.KernelIdeal Cert.KernelIdeal.Gen
open scoped BigOperators

/-! ## Sums over the inner dimension -/

/-- A square matrix over the extended reals. -/
abbrev Square : Type := FVec Ideal S4096x4096 .f32

/-- The terms of entry `(r, n)` of a product that come from half `h` of the inner dimension. -/
def halfSum (A B : Square) (h : Fin 2) (r n : Fin 4096) : EReal :=
  ∑ k : Fin 2048, A (ix2 r ⟨2048 * h.val + k.val, by omega⟩) * B (ix2 ⟨2048 * h.val + k.val, by omega⟩ n)

/-- The two halves of an entry make the entry. -/
theorem halves (A B : Square) (r n : Fin 4096) :
    halfSum A B 0 r n + halfSum A B 1 r n = ∑ k : Fin 4096, A (ix2 r k) * B (ix2 k n) := by
  refine Eq.trans ?_ (Fin.sum_univ_add (a := 2048) (b := 2048) fun k : Fin (2048 + 2048) => A (ix2 r k) * B (ix2 k n)).symm
  refine congrArg₂ (· + ·) (Finset.sum_congr rfl fun k _ => ?_) (Finset.sum_congr rfl fun k _ => ?_)
  · have hk : (⟨2048 * (0 : Fin 2).val + k.val, by omega⟩ : Fin 4096) = Fin.castAdd 2048 k := Fin.ext (by show 2048 * 0 + k.val = k.val; omega)
    rw [hk]
  · have hk : (⟨2048 * (1 : Fin 2).val + k.val, by omega⟩ : Fin 4096) = Fin.natAdd 2048 k := Fin.ext (by show 2048 * 1 + k.val = 2048 + k.val; omega)
    rw [hk]

/-- The halves may be taken in either order. -/
theorem halves_from (A B : Square) (h h' : Fin 2) (hne : h'.val = 1 - h.val) (r n : Fin 4096) :
    halfSum A B h r n + halfSum A B h' r n = ∑ k : Fin 4096, A (ix2 r k) * B (ix2 k n) := by
  match h, h' with
  | 0, 0 => exact absurd hne (by decide)
  | 0, 1 => exact halves A B r n
  | 1, 0 => exact (add_comm _ _).trans (halves A B r n)
  | 1, 1 => exact absurd hne (by decide)

/-! ## The blocks of one device -/

/-- An entry of a partial product. -/
theorem mulBlock_at (a : FVec Ideal S128x2048 .f32) (w : FVec Ideal S2048x4096 .f32) (i : Fin 128) (n : Fin 4096) :
    mulBlock a w (ix2 i n) = ∑ k : Fin 2048, a (ix2 i k) * w (ix2 k n) := by
  unfold mulBlock
  rw [shapeCast_self]
  refine (Ideal.matmul_plain_apply (M := 128) (K := 2048) (N := 4096) none a w _ i n).trans ?_
  refine (congrArg (· + _) ?_).trans (zero_add _)
  exact Ideal.ofBits_zero_f32

/-- The half of the inner dimension a device holds. -/
def halfOf (d : Dev nD) : Fin 2 := ⟨d.val / 2 % 2, Nat.mod_lt _ Nat.two_pos⟩
/-- The first of the rows a device multiplies at step `i`. -/
def rowOf (d : Dev nD) (i : Fin 16) (r : Fin 128) : Fin 4096 := ⟨2048 * (d.val % 2) + 128 * i.val + r.val, by omega⟩

theorem halfOf_px (d : Dev nD) : (halfOf (px d)).val = 1 - (halfOf d).val := by revert d; decide
theorem rowOf_px (d : Dev nD) (i : Fin 16) (r : Fin 128) : rowOf (px d) i r = rowOf d i r := by
  have h : (px d).val % 2 = d.val % 2 := by revert d; decide
  exact Fin.ext (by show 2048 * ((px d).val % 2) + 128 * i.val + r.val = 2048 * (d.val % 2) + 128 * i.val + r.val; rw [h])

/-- Where the entries of the block of rows lie. -/
theorem aWin_at (d : Dev nD) (i : Fin 16) (r : Fin 128) (k : Fin 2048) :
    (aWin d i).view.emb (ix2 r k) = (ix2 (rowOf d i r) k : S4096x2048.Idx) := by
  funext a
  refine Fin.ext ?_
  have h : ((aWin d i).view.emb (ix2 r k) a).val = k0_off1 d (BitVec.ofNat 32 (128 * i.val)) a + 1 * (ix2 r k a).val := rfl
  rw [h, k0_off1_eq]
  match a with
  | ⟨0, _⟩ => show 2048 * (d.val % 2) + 128 * i.val + 1 * r.val = 2048 * (d.val % 2) + 128 * i.val + r.val; omega
  | ⟨1, _⟩ => show 0 + 1 * k.val = k.val; omega

/-- Where the entries of a block of the result lie. -/
theorem oWin_at (d : Dev nD) (i : Fin 16) (r : Fin 128) (n : Fin 4096) :
    (oWin d i).view.emb (ix2 r n) = (ix2 (rowOf d i r) n : S4096x4096.Idx) := by
  funext a
  refine Fin.ext ?_
  have h : ((oWin d i).view.emb (ix2 r n) a).val = k0_off2 d (BitVec.ofNat 32 (128 * i.val)) a + 1 * (ix2 r n a).val := rfl
  rw [h, k0_off2_eq]
  match a with
  | ⟨0, _⟩ => show 2048 * (d.val % 2) + 128 * i.val + 1 * r.val = 2048 * (d.val % 2) + 128 * i.val + r.val; omega
  | ⟨1, _⟩ => show 0 + 1 * n.val = n.val; omega

variable (m : (ℓ : Loc nD τ sig) → Buf (Elt Ideal) ℓ)

/-- `B` is staged whole. -/
theorem bStg_eq (d : Dev nD) : bStg m d = m ((d : Thread nD τ).loc main_arg1) := by
  funext x
  refine congrArg (m ((d : Thread nD τ).loc main_arg1)) (funext fun a => Fin.ext ?_)
  show 0 * _ + 1 * (x a).val = (x a).val
  omega

/-- The devices hold their halves of `A` and `B`. -/
def Halves (A B : Square) : Prop := ∀ d : Dev nD,
  m ((d : Thread nD τ).loc main_arg0) = Layout.blockN ⟨2, ![4096, 2048]⟩ ⟨2, ![4096, 4096]⟩ (Layout.meshBlock [2, 2] ![[], [0]] d) A
  ∧ m ((d : Thread nD τ).loc main_arg1) = Layout.blockN ⟨2, ![2048, 4096]⟩ ⟨2, ![4096, 4096]⟩ (Layout.meshBlock [2, 2] ![[0], []] d) B

variable {m} {A B : Square}

theorem mesh_half (d : Dev nD) : Layout.meshLin [2, 2] d.val [0] = (halfOf d).val := by revert d; decide

/-- An entry of the rows of `A` a device multiplies. -/
theorem rowsA_at (hm : Halves m A B) (d : Dev nD) (i : Fin 16) (r : Fin 128) (k : Fin 2048) :
    rowsA m d i (ix2 r k) = A (ix2 (rowOf d i r) ⟨2048 * (halfOf d).val + k.val, by omega⟩) := by
  have h : rowsA m d i (ix2 r k) = m ((d : Thread nD τ).loc main_arg0) ((aWin d i).view.emb (ix2 r k)) := rfl
  rw [h, aWin_at, (hm d).1, Layout.blockN_apply]
  refine congrArg A (funext fun a => Fin.ext ?_)
  match a with
  | ⟨0, _⟩ => show 0 * 4096 + (rowOf d i r).val = (rowOf d i r).val; omega
  | ⟨1, _⟩ =>
    show Layout.meshLin [2, 2] d.val [0] * 2048 + k.val = 2048 * (halfOf d).val + k.val
    rw [mesh_half]; omega

/-- An entry of the `B` of a device. -/
theorem bStg_at (hm : Halves m A B) (d : Dev nD) (k : Fin 2048) (n : Fin 4096) :
    bStg m d (ix2 k n) = B (ix2 ⟨2048 * (halfOf d).val + k.val, by omega⟩ n) := by
  rw [bStg_eq, (hm d).2, Layout.blockN_apply]
  refine congrArg B (funext fun a => Fin.ext ?_)
  match a with
  | ⟨0, _⟩ =>
    show Layout.meshLin [2, 2] d.val [0] * 2048 + k.val = 2048 * (halfOf d).val + k.val
    rw [mesh_half]; omega
  | ⟨1, _⟩ => show 0 * 4096 + n.val = n.val; omega

/-- An entry of a partial product, of the whole matrices. -/
theorem prodAt_at (hm : Halves m A B) (d : Dev nD) (i : Fin 16) (r : Fin 128) (n : Fin 4096) :
    prodAt m d i (ix2 r n) = halfSum A B (halfOf d) (rowOf d i r) n := by
  unfold prodAt
  rw [mulBlock_at]
  exact Finset.sum_congr rfl fun k _ => congrArg₂ (· * ·) (rowsA_at hm d i r k) (bStg_at hm d k n)

/-- An entry of a sum. -/
theorem sumAt_at (hm : Halves m A B) (d : Dev nD) (i : Fin 16) (r : Fin 128) (n : Fin 4096) :
    sumAt m d i (ix2 r n) = ∑ k : Fin 4096, A (ix2 (rowOf d i r) k) * B (ix2 k n) := by
  have h : sumAt m d i (ix2 r n) = (prodAt m d i (ix2 r n) + prodAt m (px d) i (ix2 r n) : EReal) := rfl
  rw [h, prodAt_at hm, prodAt_at hm, rowOf_px]
  exact halves_from A B _ _ (halfOf_px d) _ _

/-! ## The whole result -/

/-- The whole product, as the reference computes it. -/
def wholeProduct (A B : Square) : Square :=
  Host.dotGeneral Cert.ReferenceIdeal.dot_S4096x4096_S4096x4096_S4096x4096_1_0_0_1_n_n none A B

theorem wholeProduct_at (A B : Square) (r n : Fin 4096) : wholeProduct A B (ix2 r n) = ∑ k : Fin 4096, A (ix2 r k) * B (ix2 k n) :=
  StackMember.dotGeneral_plain_apply (m := 4096) (k := 4096) (n := 4096) none A B r n

/-- A buffer that holds every block of the result holds the product. -/
theorem eq_wholeProduct (hm : Halves m A B) (c : Dev nD) (g : Buf (Elt Ideal) ((c : Thread nD τ).loc main_v1_0)) (hg : Holds m c g) :
    g = wholeProduct A B := by
  funext x
  obtain ⟨y, hy⟩ := View.exists_emb_of_mem_set _ ((ownerO_iff c (ownerO c x) x).mpr rfl)
  generalize ownerO c x = p at y hy
  obtain ⟨r, n, rfl⟩ : ∃ (r : Fin 128) (n : Fin 4096), y = ix2 r n := ⟨y 0, y 1, eq_ix2 y⟩
  have hx : x = (ix2 (rowOf (side c p.1) p.2 r) n : S4096x4096.Idx) := hy.symm.trans (oWin_at _ _ r n)
  have h : g x = sumAt m (side c p.1) p.2 (ix2 r n) := (congrArg g hy.symm).trans (congrFun (hg p) (ix2 r n))
  exact h.trans ((sumAt_at hm _ _ r n).trans ((congrArg (wholeProduct A B) hx).trans (wholeProduct_at A B _ n)).symm)

end Cert.TwoPhase

end
-- ==== Proof.lean ====
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Launch
public import proofs.«01_k».proof.Proof.Value
public import Idealize.ShloMosaic.Adequacy
public import Idealize.ShloMosaic.Init

@[expose] public section

noncomputable section

namespace Cert.Proof

open Idealize.ShloMosaic Idealize.ShloMosaic.TcCoe Idealize.SL.Sem

/-! ## The two printed programs have one text -/

section
variable {F : FTy → Type} [FloatOps F]

theorem same_bodies : Cert.Kernel.defs₀ (F := F) = Cert.KernelIdeal.defs₀ (F := F) :=
  congrArg Defs.onTc (funext fun ℓ => funext fun a => by
    match ℓ, a with
    | 0, (_, _) => rfl)

theorem same_defs : Cert.Kernel.defs (F := F) = Cert.KernelIdeal.defs (F := F) :=
  congrArg (Pipeline.defs (Cert.KernelIdeal.pcfgs (F := F))) same_bodies

end

/-! ## The claims -/

/-- The kernel reading the machine's floats. -/
theorem kernel_runs : Cert.quiescent_Kernel := fun m g _ => by
  have h : ∀ D, D = Cert.KernelIdeal.defs (F := Bits) → θ_run D (onTc (τ := Cert.KernelIdeal.τ) (Cert.KernelIdeal.main (F := Bits))) ⟨m, fun _ => 0, g⟩ (fun r =>
      (∀ c : Dev Cert.KernelIdeal.nD,
        r.2.mem ((c : Thread Cert.KernelIdeal.nD Cert.KernelIdeal.τ).loc Cert.KernelIdeal.main_arg0) = m ((c : Thread Cert.KernelIdeal.nD Cert.KernelIdeal.τ).loc Cert.KernelIdeal.main_arg0)
        ∧ r.2.mem ((c : Thread Cert.KernelIdeal.nD Cert.KernelIdeal.τ).loc Cert.KernelIdeal.main_arg1) = m ((c : Thread Cert.KernelIdeal.nD Cert.KernelIdeal.τ).loc Cert.KernelIdeal.main_arg1))
      ∧ r.2.sem = fun _ => 0) := fun D hD => by
    rw [hD]
    exact (θ_run Cert.KernelIdeal.defs _ _).mono (fun r (h : Cert.TwoPhase.Final m r) => ⟨fun c => ⟨(h.1 c).1, (h.1 c).2.1⟩, h.2⟩)
      (Cert.TwoPhase.run_main (F := Bits) m g)
  exact h Cert.Kernel.defs same_defs

/-- The kernel reading the extended reals. -/
theorem ideal_runs : Cert.quiescent_KernelIdeal := fun m g _ =>
  (θ_run Cert.KernelIdeal.defs _ _).mono (fun _ h => ⟨fun c => ⟨(h.1 c).1, (h.1 c).2.1⟩, h.2⟩)
    (Cert.TwoPhase.run_main (F := Ideal) m g)

theorem reference_runs : Cert.quiescent_ReferenceIdeal := fun m g _ =>
  (θ_run Cert.ReferenceIdeal.defs _ _).mono (fun r h => ⟨fun c => (h c).2, sem_eq_zero_of_no_sems rfl r.2⟩)
    (Cert.ReferenceIdeal.Value.run (F := Ideal) m g)

/-- Both compute the whole product. -/
theorem same_values : Cert.algebraic_KernelIdeal_ReferenceIdeal := fun m g m' g' _ hm =>
  ⟨Cert.TwoPhase.wholeProduct (m' (((0 : Dev Cert.ReferenceIdeal.nD) : Thread Cert.ReferenceIdeal.nD Cert.ReferenceIdeal.τ).loc Cert.ReferenceIdeal.main_arg0))
      (m' (((0 : Dev Cert.ReferenceIdeal.nD) : Thread Cert.ReferenceIdeal.nD Cert.ReferenceIdeal.τ).loc Cert.ReferenceIdeal.main_arg1)),
    (θ_run Cert.KernelIdeal.defs _ _).mono
      (fun _ h c => ⟨Cert.TwoPhase.eq_wholeProduct hm c _ (h.1 c).2.2, (h.1 c).1, (h.1 c).2.1⟩)
      (Cert.TwoPhase.run_main (F := Ideal) m g),
    (θ_run Cert.ReferenceIdeal.defs _ _).mono (fun _ h => h 0) (Cert.ReferenceIdeal.Value.run (F := Ideal) m' g')⟩

theorem claim : Cert.Claim :=
  ⟨Cert.Kernel.Gen.facts, Cert.KernelIdeal.Gen.facts, Cert.ReferenceIdeal.Gen.facts,
    kernel_runs, ideal_runs, reference_runs, trivial, same_values⟩

end Cert.Proof

end
